-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_free [hPre_bias_free : Cert.Pre_bias_free.Facts] (m : (ℓ : Loc Cert.KernelIdeal.nD Cert.KernelIdeal.τ Cert.KernelIdeal.sig) → Buf (Elt Ideal) ℓ) : Prop :=
  ∀ c : Dev Cert.KernelIdeal.nD,
    (Cert.Pre_bias_free.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_free [hPre_bias_free : Cert.Pre_bias_free.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_free.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bias_free [hKernelIdeal : Cert.KernelIdeal.Facts] [hPre_bias_free : Cert.Pre_bias_free.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_free m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bias_free [hReferenceIdeal : Cert.ReferenceIdeal.Facts] [hPre_bias_free : Cert.Pre_bias_free.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_free m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "far" .f32 0x45800000#32 ⊤
  ∧ IdealRules.named_const.Statement Cert.KernelIdeal.κ "c1" .bf16 0xBE03#16 ((-((Real.sqrt 128)⁻¹ * (Real.log 2)⁻¹) : ℝ) : EReal)

def algebraic_KernelIdeal_ReferenceIdeal_pre_bias_free [hKernelIdeal : Cert.KernelIdeal.Facts] [hReferenceIdeal : Cert.ReferenceIdeal.Facts] [hPre_bias_free : Cert.Pre_bias_free.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_free m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bias_free : Cert.Pre_bias_free.Facts),
    quiescent_Kernel (hKernel := hKernel)
    ∧ quiescent_KernelIdeal (hKernelIdeal := hKernelIdeal)
    ∧ quiescent_KernelIdeal_pre_bias_free (hKernelIdeal := hKernelIdeal) (hPre_bias_free := hPre_bias_free)
    ∧ quiescent_ReferenceIdeal (hReferenceIdeal := hReferenceIdeal)
    ∧ quiescent_ReferenceIdeal_pre_bias_free (hReferenceIdeal := hReferenceIdeal) (hPre_bias_free := hPre_bias_free)
    ∧ preserves_Kernel_KernelIdeal
    ∧ algebraic_KernelIdeal_ReferenceIdeal_pre_bias_free (hKernelIdeal := hKernelIdeal) (hReferenceIdeal := hReferenceIdeal) (hPre_bias_free := hPre_bias_free)
-- ==== Pre_bias_free.lean ====
abbrev S1x500x128 : Shape := ⟨3, ![1, 500, 128]⟩
abbrev S1024x129 : Shape := ⟨2, ![1024, 129]⟩
abbrev S2048x129 : Shape := ⟨2, ![2048, 129]⟩
abbrev S8x128 : Shape := ⟨2, ![8, 128]⟩
abbrev S128x129 : Shape := ⟨2, ![128, 129]⟩
abbrev S1024x1 : Shape := ⟨2, ![1024, 1]⟩
abbrev S1024 : Shape := ⟨1, ![1024]⟩
abbrev S_ : Shape := ⟨0, ![]⟩
abbrev S2048x1 : Shape := ⟨2, ![2048, 1]⟩
abbrev S2048 : Shape := ⟨1, ![2048]⟩
abbrev S128x1 : Shape := ⟨2, ![128, 1]⟩
abbrev S128 : Shape := ⟨1, ![128]⟩

class Facts : Prop where
  slices_S1024x129_S1024x1_0_128 : S1024x129.Slices ![0, 128] S1024x1
  shapeCasts_S1024x1_S1024 : S1024x1.ShapeCasts S1024
  bcast_S_S1024 : S_.BroadcastsInDim S1024 (![] : Fin 0 → Fin S1024.rank)
  reducesTo_S1024_S_d0 : S1024.ReducesTo [0] S_
  h_S_ : 0 < S_.numel
  slices_S2048x129_S2048x1_0_128 : S2048x129.Slices ![0, 128] S2048x1
  shapeCasts_S2048x1_S2048 : S2048x1.ShapeCasts S2048
  bcast_S_S2048 : S_.BroadcastsInDim S2048 (![] : Fin 0 → Fin S2048.rank)
  reducesTo_S2048_S_d0 : S2048.ReducesTo [0] S_
  slices_S128x129_S128x1_0_128 : S128x129.Slices ![0, 128] S128x1
  shapeCasts_S128x1_S128 : S128x1.ShapeCasts S128
  bcast_S_S128 : S_.BroadcastsInDim S128 (![] : Fin 0 → Fin S128.rank)
  reducesTo_S128_S_d0 : S128.ReducesTo [0] S_

variable [Facts]

def fn {F : FTy → Type} [FloatOps F] (main_arg0 : FVec F S1x500x128 .f32) (main_arg1 : FVec F S1024x129 .f32) (main_arg2 : FVec F S2048x129 .f32) (main_arg3 : FVec F S8x128 .f32) (main_arg4 : FVec F S128x129 .f32) : IVec S_ 1 :=
  let main_v0 : FVec F S1024x1 .f32 := (extractStridedSlice S1024x1 ![0, 128] · slices_S1024x129_S1024x1_0_128) main_arg1
  let main_v1 : FVec F S1024 .f32 := shapeCast S1024 main_v0 shapeCasts_S1024x1_S1024
  let main_cst : FVec F S_ .f32 := constant S_ .f32 0x00000000#32
  let main_v2 : FVec F S1024 .f32 := broadcastInDim S1024 ![] bcast_S_S1024 main_cst
  let main_v3 : IVec S1024 1 := cmpf .oeq main_v1 main_v2
  let main_c : IVec S_ 1 := constantI S_ 1 1#1
  let main_v4 : IVec S_ 1 := (fun x v => Host.reduce IntOp.andi x v reducesTo_S1024_S_d0 h_S_) main_v3 main_c
  let main_v5 : FVec F S2048x1 .f32 := (extractStridedSlice S2048x1 ![0, 128] · slices_S2048x129_S2048x1_0_128) main_arg2
  let main_v6 : FVec F S2048 .f32 := shapeCast S2048 main_v5 shapeCasts_S2048x1_S2048
  let main_cst_0 : FVec F S_ .f32 := constant S_ .f32 0x00000000#32
  let main_v7 : FVec F S2048 .f32 := broadcastInDim S2048 ![] bcast_S_S2048 main_cst_0
  let main_v8 : IVec S2048 1 := cmpf .oeq main_v6 main_v7
  let main_c_1 : IVec S_ 1 := constantI S_ 1 1#1
  let main_v9 : IVec S_ 1 := (fun x v => Host.reduce IntOp.andi x v reducesTo_S2048_S_d0 h_S_) main_v8 main_c_1
  let main_v10 : IVec S_ 1 := andi main_v4 main_v9
  let main_v11 : FVec F S128x1 .f32 := (extractStridedSlice S128x1 ![0, 128] · slices_S128x129_S128x1_0_128) main_arg4
  let main_v12 : FVec F S128 .f32 := shapeCast S128 main_v11 shapeCasts_S128x1_S128
  let main_cst_2 : FVec F S_ .f32 := constant S_ .f32 0x00000000#32
  let main_v13 : FVec F S128 .f32 := broadcastInDim S128 ![] bcast_S_S128 main_cst_2
  let main_v14 : IVec S128 1 := cmpf .oeq main_v12 main_v13
  let main_c_3 : IVec S_ 1 := constantI S_ 1 1#1
  let main_v15 : IVec S_ 1 := (fun x v => Host.reduce IntOp.andi x v reducesTo_S128_S_d0 h_S_) main_v14 main_c_3
  let main_v16 : IVec S_ 1 := andi main_v10 main_v15
  main_v16
-- ==== Kernel.lean ====
abbrev S1x500x128 : Shape := ⟨3, ![1, 500, 128]⟩
abbrev S1024x129 : Shape := ⟨2, ![1024, 129]⟩
abbrev S2048x129 : Shape := ⟨2, ![2048, 129]⟩
abbrev S8x128 : Shape := ⟨2, ![8, 128]⟩
abbrev S128x129 : Shape := ⟨2, ![128, 129]⟩
abbrev S_ : Shape := ⟨0, ![]⟩
abbrev S512x128 : Shape := ⟨2, ![512, 128]⟩
abbrev S500x128 : Shape := ⟨2, ![500, 128]⟩
abbrev S1 : Shape := ⟨1, ![1]⟩
abbrev S1024x128 : Shape := ⟨2, ![1024, 128]⟩
abbrev S8x128x128 : Shape := ⟨3, ![8, 128, 128]⟩
abbrev S2048x128 : Shape := ⟨2, ![2048, 128]⟩
abbrev S16x128x128 : Shape := ⟨3, ![16, 128, 128]⟩
abbrev S8x1x128 : Shape := ⟨3, ![8, 1, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S512x1 : Shape := ⟨2, ![512, 1]⟩
abbrev S128x512 : Shape := ⟨2, ![128, 512]⟩
abbrev S64x128 : Shape := ⟨2, ![64, 128]⟩
abbrev S64x512 : Shape := ⟨2, ![64, 512]⟩
abbrev S64x1 : Shape := ⟨2, ![64, 1]⟩
abbrev S64 : Shape := ⟨1, ![64]⟩
abbrev S1x512 : Shape := ⟨2, ![1, 512]⟩
abbrev S512 : Shape := ⟨1, ![512]⟩
abbrev S512x512 : Shape := ⟨2, ![512, 512]⟩

abbrev nBuf : Space → Nat
  | .hbm => 22
  | .vmem => 12
  | .smem => 0
  | _ => 0

abbrev bufTy : (tb : Table) → Fin (tcTables nBuf tb) → BufTy
  | .hbm, ⟨0, _⟩ => ⟨S1x500x128, .f32⟩
  | .hbm, ⟨1, _⟩ => ⟨S1024x129, .f32⟩
  | .hbm, ⟨2, _⟩ => ⟨S2048x129, .f32⟩
  | .hbm, ⟨3, _⟩ => ⟨S8x128, .f32⟩
  | .hbm, ⟨4, _⟩ => ⟨S128x129, .f32⟩
  | .hbm, ⟨5, _⟩ => ⟨S_, .f32⟩
  | .hbm, ⟨6, _⟩ => ⟨S512x128, .f32⟩
  | .hbm, ⟨7, _⟩ => ⟨S500x128, .f32⟩
  | .hbm, ⟨8, _⟩ => ⟨S_, .i32⟩
  | .hbm, ⟨9, _⟩ => ⟨S1, .i32⟩
  | .hbm, ⟨10, _⟩ => ⟨S512x128, .f32⟩
  | .hbm, ⟨11, _⟩ => ⟨S1024x128, .f32⟩
  | .hbm, ⟨12, _⟩ => ⟨S8x128x128, .f32⟩
  | .hbm, ⟨13, _⟩ => ⟨S2048x128, .f32⟩
  | .hbm, ⟨14, _⟩ => ⟨S16x128x128, .f32⟩
  | .hbm, ⟨15, _⟩ => ⟨S8x128x128, .f32⟩
  | .hbm, ⟨16, _⟩ => ⟨S8x128x128, .f32⟩
  | .hbm, ⟨17, _⟩ => ⟨S8x1x128, .f32⟩
  | .hbm, ⟨18, _⟩ => ⟨S128x128, .f32⟩
  | .hbm, ⟨19, _⟩ => ⟨S512x128, .f32⟩
  | .hbm, ⟨20, _⟩ => ⟨S500x128, .f32⟩
  | .hbm, ⟨21, _⟩ => ⟨S1x500x128, .f32⟩
  | .local _ .vmem, ⟨0, _⟩ => ⟨S512x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x1x128, .f32⟩
  | .local _ .vmem, ⟨8, _⟩ => ⟨S1x1x128, .f32⟩
  | .local _ .vmem, ⟨9, _⟩ => ⟨S128x128, .f32⟩
  | .local _ .vmem, ⟨10, _⟩ => ⟨S512x128, .f32⟩
  | .local _ .vmem, ⟨11, _⟩ => ⟨S512x128, .f32⟩
  | _, _ => ⟨S1x500x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v11352 : BitVec 1 := Scalar.cmpi .eq arg0 c7_i32
  let v11353 : BitVec 32 := Scalar.extui v11352
  let c0_i32_41 : BitVec 32 := 0#32
  let v11354 : BitVec 1 := Scalar.cmpi .ne v11353 c0_i32_41
  v11354

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "c1" => some ((-((Real.sqrt 128)⁻¹ * (Real.log 2)⁻¹) : ℝ) : EReal)
  | "far" => some ⊤
  | _ => none
-- ==== ReferenceIdeal.lean ====
abbrev S1x500x128 : Shape := ⟨3, ![1, 500, 128]⟩
abbrev S1024x129 : Shape := ⟨2, ![1024, 129]⟩
abbrev S2048x129 : Shape := ⟨2, ![2048, 129]⟩
abbrev S8x128 : Shape := ⟨2, ![8, 128]⟩
abbrev S128x129 : Shape := ⟨2, ![128, 129]⟩
abbrev S500x128 : Shape := ⟨2, ![500, 128]⟩
abbrev S1024x128 : Shape := ⟨2, ![1024, 128]⟩
abbrev S500x1024 : Shape := ⟨2, ![500, 1024]⟩
abbrev S1024x1 : Shape := ⟨2, ![1024, 1]⟩
abbrev S1024 : Shape := ⟨1, ![1024]⟩
abbrev S1x1024 : Shape := ⟨2, ![1, 1024]⟩
abbrev S500x8x128 : Shape := ⟨3, ![500, 8, 128]⟩
abbrev S2048x128 : Shape := ⟨2, ![2048, 128]⟩
abbrev S500x2048 : Shape := ⟨2, ![500, 2048]⟩
abbrev S2048x1 : Shape := ⟨2, ![2048, 1]⟩
abbrev S2048 : Shape := ⟨1, ![2048]⟩
abbrev S1x2048 : Shape := ⟨2, ![1, 2048]⟩
abbrev S500x16x128 : Shape := ⟨3, ![500, 16, 128]⟩
abbrev S500x1x128 : Shape := ⟨3, ![500, 1, 128]⟩
abbrev S1x8x128 : Shape := ⟨3, ![1, 8, 128]⟩
abbrev S1x500x8x128 : Shape := ⟨4, ![1, 500, 8, 128]⟩
abbrev S500x1x8x128 : Shape := ⟨4, ![500, 1, 8, 128]⟩
abbrev S500x500x8x128 : Shape := ⟨4, ![500, 500, 8, 128]⟩
abbrev S_ : Shape := ⟨0, ![]⟩
abbrev S500x500x8 : Shape := ⟨3, ![500, 500, 8]⟩
abbrev S1x500x8 : Shape := ⟨3, ![1, 500, 8]⟩
abbrev S501x500x8 : Shape := ⟨3, ![501, 500, 8]⟩
abbrev S500x8 : Shape := ⟨2, ![500, 8]⟩
abbrev S8x128x500 : Shape := ⟨3, ![8, 128, 500]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S1x500x128, .f32⟩
  | .hbm, ⟨1, _⟩ => ⟨S1024x129, .f32⟩
  | .hbm, ⟨2, _⟩ => ⟨S2048x129, .f32⟩
  | .hbm, ⟨3, _⟩ => ⟨S8x128, .f32⟩
  | .hbm, ⟨4, _⟩ => ⟨S128x129, .f32⟩
  | .hbm, ⟨5, _⟩ => ⟨S500x128, .f32⟩
  | .hbm, ⟨6, _⟩ => ⟨S1024x128, .f32⟩
  | .hbm, ⟨7, _⟩ => ⟨S500x1024, .f32⟩
  | .hbm, ⟨8, _⟩ => ⟨S1024x1, .f32⟩
  | .hbm, ⟨9, _⟩ => ⟨S1024, .f32⟩
  | .hbm, ⟨10, _⟩ => ⟨S1x1024, .f32⟩
  | .hbm, ⟨11, _⟩ => ⟨S500x1024, .f32⟩
  | .hbm, ⟨12, _⟩ => ⟨S500x1024, .f32⟩
  | .hbm, ⟨13, _⟩ => ⟨S500x8x128, .f32⟩
  | .hbm, ⟨14, _⟩ => ⟨S2048x128, .f32⟩
  | .hbm, ⟨15, _⟩ => ⟨S500x2048, .f32⟩
  | .hbm, ⟨16, _⟩ => ⟨S2048x1, .f32⟩
  | .hbm, ⟨17, _⟩ => ⟨S2048, .f32⟩
  | .hbm, ⟨18, _⟩ => ⟨S1x2048, .f32⟩
  | .hbm, ⟨19, _⟩ => ⟨S500x2048, .f32⟩
  | .hbm, ⟨20, _⟩ => ⟨S500x2048, .f32⟩
  | .hbm, ⟨21, _⟩ => ⟨S500x16x128, .f32⟩
  | .hbm, ⟨22, _⟩ => ⟨S500x8x128, .f32⟩
  | .hbm, ⟨23, _⟩ => ⟨S500x8x128, .f32⟩
  | .hbm, ⟨24, _⟩ => ⟨S500x1x128, .f32⟩
  | .hbm, ⟨25, _⟩ => ⟨S1x8x128, .f32⟩
  | .hbm, ⟨26, _⟩ => ⟨S500x8x128, .f32⟩
  | .hbm, ⟨27, _⟩ => ⟨S500x8x128, .f32⟩
  | .hbm, ⟨28, _⟩ => ⟨S500x8x128, .f32⟩
  | .hbm, ⟨29, _⟩ => ⟨S1x500x8x128, .f32⟩
  | .hbm, ⟨30, _⟩ => ⟨S500x1x8x128, .f32⟩
  | .hbm, ⟨31, _⟩ => ⟨S500x500x8x128, .f32⟩
  | .hbm, ⟨32, _⟩ => ⟨S500x500x8x128, .f32⟩
  | .hbm, ⟨33, _⟩ => ⟨S500x500x8x128, .f32⟩
  | .hbm, ⟨34, _⟩ => ⟨S500x500x8x128, .f32⟩
  | .hbm, ⟨35, _⟩ => ⟨S_, .f32⟩
  | .hbm, ⟨36, _⟩ => ⟨S500x500x8, .f32⟩
  | .hbm, ⟨37, _⟩ => ⟨S500x500x8, .f32⟩
  | .hbm, ⟨38, _⟩ => ⟨S_, .f32⟩
  | .hbm, ⟨39, _⟩ => ⟨S_, .f32⟩
  | .hbm, ⟨40, _⟩ => ⟨S500x500x8, .f32⟩
  | .hbm, ⟨41, _⟩ => ⟨S500x500x8, .f32⟩
  | .hbm, ⟨42, _⟩ => ⟨S_, .f32⟩
  | .hbm, ⟨43, _⟩ => ⟨S1x500x8, .f32⟩
  | .hbm, ⟨44, _⟩ => ⟨S501x500x8, .f32⟩
  | .hbm, ⟨45, _⟩ => ⟨S_, .f32⟩
  | .hbm, ⟨46, _⟩ => ⟨S500x8, .f32⟩
  | .hbm, ⟨47, _⟩ => ⟨S_, .f32⟩
  | .hbm, ⟨48, _⟩ => ⟨S500x8, .f32⟩
  | .hbm, ⟨49, _⟩ => ⟨S500x8, .f32⟩
  | .hbm, ⟨50, _⟩ => ⟨S1x500x8, .f32⟩
  | .hbm, ⟨51, _⟩ => ⟨S501x500x8, .f32⟩
  | .hbm, ⟨52, _⟩ => ⟨S501x500x8, .f32⟩
  | .hbm, ⟨53, _⟩ => ⟨S501x500x8, .f32⟩
  | .hbm, ⟨54, _⟩ => ⟨S_, .f32⟩
  | .hbm, ⟨55, _⟩ => ⟨S500x8, .f32⟩
  | .hbm, ⟨56, _⟩ => ⟨S1x500x8, .f32⟩
  | .hbm, ⟨57, _⟩ => ⟨S501x500x8, .f32⟩
  | .hbm, ⟨58, _⟩ => ⟨S501x500x8, .f32⟩
  | .hbm, ⟨59, _⟩ => ⟨S500x500x8, .f32⟩
  | .hbm, ⟨60, _⟩ => ⟨S8x128x500, .f32⟩
  | .hbm, ⟨61, _⟩ => ⟨S500x8x128, .f32⟩
  | .hbm, ⟨62, _⟩ => ⟨S8x128x500, .f32⟩
  | .hbm, ⟨63, _⟩ => ⟨S500x8x128, .f32⟩
  | .hbm, ⟨64, _⟩ => ⟨S500x8x128, .f32⟩
  | .hbm, ⟨65, _⟩ => ⟨S_, .f32⟩
  | .hbm, ⟨66, _⟩ => ⟨S500x128, .f32⟩
  | .hbm, ⟨67, _⟩ => ⟨S_, .f32⟩
  | .hbm, ⟨68, _⟩ => ⟨S500x128, .f32⟩
  | .hbm, ⟨69, _⟩ => ⟨S500x128, .f32⟩
  | .hbm, ⟨70, _⟩ => ⟨S_, .f32⟩
  | .hbm, ⟨71, _⟩ => ⟨S500x128, .f32⟩
  | .hbm, ⟨72, _⟩ => ⟨S500x128, .f32⟩
  | .hbm, ⟨73, _⟩ => ⟨S500x128, .f32⟩
  | .hbm, ⟨74, _⟩ => ⟨S500x128, .f32⟩
  | .hbm, ⟨75, _⟩ => ⟨S_, .f32⟩
  | .hbm, ⟨76, _⟩ => ⟨S500x128, .f32⟩
  | .hbm, ⟨77, _⟩ => ⟨S500x128, .f32⟩
  | .hbm, ⟨78, _⟩ => ⟨S_, .f32⟩
  | .hbm, ⟨79, _⟩ => ⟨S500x128, .f32⟩
  | .hbm, ⟨80, _⟩ => ⟨S500x128, .f32⟩
  | .hbm, ⟨81, _⟩ => ⟨S500x128, .f32⟩
  | .hbm, ⟨82, _⟩ => ⟨S_, .f32⟩
  | .hbm, ⟨83, _⟩ => ⟨S500x128, .f32⟩
  | .hbm, ⟨84, _⟩ => ⟨S500x128, .f32⟩
  | .hbm, ⟨85, _⟩ => ⟨S128x128, .f32⟩
  | .hbm, ⟨86, _⟩ => ⟨S500x128, .f32⟩
  | .hbm, ⟨87, _⟩ => ⟨S128x1, .f32⟩
  | .hbm, ⟨88, _⟩ => ⟨S128, .f32⟩
  | .hbm, ⟨89, _⟩ => ⟨S1x128, .f32⟩
  | .hbm, ⟨90, _⟩ => ⟨S500x128, .f32⟩
  | .hbm, ⟨91, _⟩ => ⟨S500x128, .f32⟩
  | .hbm, ⟨92, _⟩ => ⟨S500x128, .f32⟩
  | .hbm, ⟨93, _⟩ => ⟨S1x500x128, .f32⟩
  | _, _ => ⟨S1x500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Proof.Spec.lean ====
/- The mathematics both programs compute, as functions on the extended reals, and the facts about it that the two
   programs' spellings are compared through. -/
module

public import Idealize.ShloMosaic.PureOps
public import Idealize.ShloMosaic.PureOps.Ideal

@[expose] public section

noncomputable section

namespace Cert.Spec

open Idealize.ShloMosaic

/-! ## Absolute differences -/

/-- The absolute difference of two extended reals (of two equal infinities it is `⊤`). -/
def gap (a b : EReal) : EReal := max (a - b) (-(a - b))

theorem gap_comm (a b : EReal) : gap a b = gap b a := by
  unfold gap
  induction a using EReal.rec <;> induction b using EReal.rec
  all_goals try simp
  rename_i x y
  rw [← EReal.coe_sub, ← EReal.coe_sub, ← EReal.coe_neg, ← EReal.coe_neg, neg_sub, neg_sub, max_comm]

theorem gap_nonneg (a b : EReal) : 0 ≤ gap a b := by
  unfold gap
  rcases le_total 0 (a - b) with h | h
  · exact le_max_of_le_left h
  · exact le_max_of_le_right (EReal.neg_nonneg.mpr h)

theorem gap_top (b : EReal) : gap ⊤ b = ⊤ := by
  unfold gap
  induction b using EReal.rec <;> simp

/-! ## The weight of a distance -/

/-- `-(√128)⁻¹ / log 2`: the factor that turns a distance into a power of two. -/
def c1 : EReal := ((-((Real.sqrt 128)⁻¹ * (Real.log 2)⁻¹) : ℝ) : EReal)

theorem sqrt_pos : 0 < Real.sqrt 128 := Real.sqrt_pos.mpr (by norm_num)
theorem log_pos : 0 < Real.log 2 := Real.log_pos (by norm_num)

theorem c1_neg : -((Real.sqrt 128)⁻¹ * (Real.log 2)⁻¹) < 0 :=
  neg_neg_of_pos (mul_pos (inv_pos.mpr sqrt_pos) (inv_pos.mpr log_pos))

/-- The unnormalised weight of a distance. -/
def weight (d : EReal) : EReal := Ideal.exp2 (d * c1)

theorem weight_top : weight ⊤ = 0 := by
  unfold weight c1
  rw [EReal.top_mul_coe_of_neg c1_neg]
  rfl

/-- A power of two of the scaled distance is the exponential of minus the distance over `√128`. -/
theorem weight_eq (d : EReal) (hd : 0 ≤ d) : weight d = Ideal.exp (Ideal.div (-d) ((Real.sqrt 128 : ℝ) : EReal)) := by
  rw [Ideal.div_coe sqrt_pos.ne']
  induction d using EReal.rec with
  | bot => exact absurd hd (by simp)
  | top =>
    rw [weight_top, EReal.neg_top, EReal.bot_mul_coe_of_pos (by simpa using sqrt_pos)]
    rfl
  | coe r =>
    unfold weight c1
    rw [← EReal.coe_mul, ← EReal.coe_neg, ← EReal.coe_mul, Ideal.exp2_coe, Ideal.exp_coe]
    refine congrArg _ ?_
    change (2 : ℝ) ^ (r * -((Real.sqrt 128)⁻¹ * (Real.log 2)⁻¹)) = Real.exp (-r * (1 / Real.sqrt 128))
    rw [Real.rpow_def_of_pos (by norm_num)]
    have h := log_pos.ne'
    have h2 := sqrt_pos.ne'
    congr 1
    field_simp

theorem exponent_nonpos (d : EReal) (hd : 0 ≤ d) : Ideal.div (-d) ((Real.sqrt 128 : ℝ) : EReal) ≤ 0 := by
  rw [Ideal.div_coe sqrt_pos.ne']
  refine EReal.mul_nonpos_iff.mpr (Or.inr ⟨by simpa using hd, ?_⟩)
  exact_mod_cast (one_div_pos.mpr sqrt_pos).le

theorem exp_nonneg (x : EReal) : 0 ≤ Ideal.exp x := by
  induction x using EReal.rec with
  | bot => exact le_refl _
  | top => exact le_top
  | coe r =>
    rw [Ideal.exp_coe]
    exact_mod_cast (Real.exp_pos r).le

theorem weight_nonneg (d : EReal) (hd : 0 ≤ d) : 0 ≤ weight d := by
  rw [weight_eq d hd]
  exact exp_nonneg _

theorem add_one_ne_zero {y : EReal} (h : 0 ≤ y) : y + 1 ≠ 0 := by
  have : (0 : EReal) < y + 1 := lt_of_lt_of_le zero_lt_one (le_add_of_nonneg_left h)
  exact this.ne'

theorem div_eq {y : EReal} (h : y ≠ 0) (x : EReal) : Ideal.div x y = x * Ideal.div 1 y := by
  unfold Ideal.div
  rw [if_neg h, if_neg h, one_mul]

/-! ## The softmax with a null entry -/

/-- The largest of nonpositive numbers followed by a zero is zero. -/
theorem max_with_null (L : Fin 501 → EReal) (hL : ∀ s, L s ≤ 0) (h0 : L (Fin.last 500) = 0) :
    Finset.univ.fold max ⊥ L = 0 := by
  refine le_antisymm (Finset.fold_max_le 0 |>.mpr ⟨bot_le, fun s _ => hL s⟩) ?_
  exact (Finset.le_fold_max 0).mpr (Or.inr ⟨Fin.last 500, Finset.mem_univ _, h0.ge⟩)

/-! ## Sums over padded rows -/

/-- Twelve rows of zeros add nothing. -/
theorem sum_padded (f : Fin 512 → EReal) (h : ∀ s : Fin 512, 500 ≤ s.val → f s = 0) :
    ∑ s, f s = ∑ s : Fin 500, f ⟨s.val, by omega⟩ := by
  have h1 := Fin.sum_univ_add (a := 500) (b := 12) f
  refine h1.trans ?_
  rw [Finset.sum_eq_zero (s := Finset.univ) (f := fun i : Fin 12 => f (Fin.natAdd 500 i))
    (fun i _ => h _ (by simp)), add_zero]
  rfl

/-! ## The computation -/

section
variable (x : Fin 500 → Fin 128 → EReal) (wq wf wb : Fin 8 → Fin 128 → Fin 128 → EReal) (wk : Fin 8 → Fin 128 → EReal)
  (fan : Fin 128 → Fin 128 → EReal)

/-- A row times a matrix's rows. -/
def lin (r : Fin 128 → EReal) (w : Fin 128 → Fin 128 → EReal) (o : Fin 128) : EReal := ∑ i, r i * w o i

/-- The distance of token `s`'s key to token `t`'s query. -/
def distance (h : Fin 8) (s t : Fin 500) : EReal := ∑ w, gap (x s w * wk h w) (lin (x t) (wq h) w)

/-- The share of token `s` in the softmax of token `t`. -/
def share (h : Fin 8) (s t : Fin 500) : EReal :=
  weight (distance x wq wk h s t) * Ideal.div 1 (∑ s', weight (distance x wq wk h s' t) + 1)

/-- One head's two aggregations. -/
def head (h : Fin 8) (t : Fin 500) (w : Fin 128) : EReal :=
  ∑ s, share x wq wk h s t * lin (x s) (wf h) w + ∑ d, share x wq wk h t d * lin (x d) (wb h) w

/-- The gate, over the values its two constants denote. -/
def gate (half slope b : EReal) : EReal := (b + half) * Ideal.logistic (slope * (b + half)) - half

/-- The result. -/
def out (half slope : EReal) (t : Fin 500) (o : Fin 128) : EReal :=
  x t o + ∑ w, gate half slope (∑ h, head x wq wf wb wk h t w) * fan o w

theorem distance_nonneg (h : Fin 8) (s t : Fin 500) : 0 ≤ distance x wq wk h s t :=
  Finset.sum_nonneg fun _ _ => gap_nonneg _ _

theorem total_ne_zero (h : Fin 8) (t : Fin 500) : ∑ s', weight (distance x wq wk h s' t) + 1 ≠ 0 :=
  add_one_ne_zero (Finset.sum_nonneg fun _ _ => weight_nonneg _ (distance_nonneg x wq wk h _ t))

end

end Cert.Spec

end
-- ==== Proof.Ref.lean ====
/- The reference, stage by stage, and each stage read at an index. -/
module

public import proofs.«01_k».proof.Proof.Gen.ReferenceIdeal.Run
public import proofs.«01_k».proof.Proof.Spec
public import Idealize.ShloMosaic.Lib.Pointwise

@[expose] public section

set_option maxRecDepth 16384

noncomputable section

open Idealize.ShloMosaic Idealize.ShloMosaic.TcCoe Idealize.SL.Sem
open Cert.Spec (gap weight lin)

namespace Cert.ReferenceIdeal.Stages

open Cert.ReferenceIdeal Cert.ReferenceIdeal.Gen

/-! ## The stages -/

/-- The tokens as rows. -/
def rows (x : FVec Ideal S1x500x128 .f32) : FVec Ideal S500x128 .f32 := shapeCast _ x shapeCasts_S1x500x128_S500x128

/-- The queries, by heads. -/
def query (x : FVec Ideal S500x128 .f32) (a : FVec Ideal S1024x129 .f32) : FVec Ideal S500x8x128 .f32 :=
  shapeCast _ (addf (Host.dotGeneral dot_S500x128_S1024x128_S500x1024_1_1_0_0_n_n none x
      (extractStridedSlice S1024x128 ![0, 0] a slices_S1024x129_S1024x128_0_0))
    (broadcastInDim S500x1024 ![0, 1] bcast_S1x1024_S500x1024_0_1 (broadcastInDim S1x1024 ![1] bcast_S1024_S1x1024_1
      (shapeCast _ (extractStridedSlice S1024x1 ![0, 128] a slices_S1024x129_S1024x1_0_128) shapeCasts_S1024x1_S1024))))
    shapeCasts_S500x1024_S500x8x128

/-- The values, the forward heads followed by the backward ones. -/
def value (x : FVec Ideal S500x128 .f32) (b : FVec Ideal S2048x129 .f32) : FVec Ideal S500x16x128 .f32 :=
  shapeCast _ (addf (Host.dotGeneral dot_S500x128_S2048x128_S500x2048_1_1_0_0_n_n none x
      (extractStridedSlice S2048x128 ![0, 0] b slices_S2048x129_S2048x128_0_0))
    (broadcastInDim S500x2048 ![0, 1] bcast_S1x2048_S500x2048_0_1 (broadcastInDim S1x2048 ![1] bcast_S2048_S1x2048_1
      (shapeCast _ (extractStridedSlice S2048x1 ![0, 128] b slices_S2048x129_S2048x1_0_128) shapeCasts_S2048x1_S2048))))
    shapeCasts_S500x2048_S500x16x128

/-- The keys, by heads. -/
def key (x : FVec Ideal S500x128 .f32) (k : FVec Ideal S8x128 .f32) : FVec Ideal S500x8x128 .f32 :=
  mulf (broadcastInDim S500x8x128 ![0, 1, 2] bcast_S500x1x128_S500x8x128_0_1_2 (broadcastInDim S500x1x128 ![0, 2] bcast_S500x128_S500x1x128_0_2 x))
    (broadcastInDim S500x8x128 ![0, 1, 2] bcast_S1x8x128_S500x8x128_0_1_2 (broadcastInDim S1x8x128 ![1, 2] bcast_S8x128_S1x8x128_1_2 k))

/-- The distances of keys to queries. -/
def distances (q k : FVec Ideal S500x8x128 .f32) : FVec Ideal S500x500x8 .f32 :=
  Host.reduceAdd (Host.absf (subf
      (broadcastInDim S500x500x8x128 ![0, 1, 2, 3] bcast_S1x500x8x128_S500x500x8x128_0_1_2_3
        (broadcastInDim S1x500x8x128 ![1, 2, 3] bcast_S500x8x128_S1x500x8x128_1_2_3 q))
      (broadcastInDim S500x500x8x128 ![0, 1, 2, 3] bcast_S500x1x8x128_S500x500x8x128_0_1_2_3
        (broadcastInDim S500x1x8x128 ![0, 2, 3] bcast_S500x8x128_S500x1x8x128_0_2_3 k))))
    (constant S_ .f32 0x00000000#32) reducesTo_S500x500x8x128_S500x500x8_d3 h_S_

/-- The exponents of the tokens. -/
def exponents (d : FVec Ideal S500x500x8 .f32) : FVec Ideal S500x500x8 .f32 :=
  Host.divf (Host.negf d) (broadcastInDim S500x500x8 ![] bcast_S_S500x500x8 (Host.sqrt (constant S_ .f32 0x43000000#32)))

/-- The exponents with the null entry after them. -/
def withNull (e : FVec Ideal S500x500x8 .f32) : FVec Ideal S501x500x8 .f32 :=
  concatenate S501x500x8 0 [⟨S500x500x8, e⟩, ⟨S1x500x8, broadcastInDim S1x500x8 ![] bcast_S_S1x500x8 (constant S_ .f32 0x00000000#32)⟩]
    concatenates_S500x500x8_S1x500x8_S501x500x8_d0

/-- The largest exponent of each softmax. -/
def largest (l : FVec Ideal S501x500x8 .f32) : FVec Ideal S500x8 .f32 :=
  maximumf (broadcastInDim S500x8 ![] bcast_S_S500x8 (constant S_ .f32 0xFF800000#32))
    (Host.reduce FloatOps.maximumf l (constant S_ .f32 0xFF800000#32) reducesTo_S501x500x8_S500x8_d0 h_S_)

/-- One number per softmax, repeated over its entries. -/
def spread (y : FVec Ideal S500x8 .f32) : FVec Ideal S501x500x8 .f32 :=
  broadcastInDim S501x500x8 ![0, 1, 2] bcast_S1x500x8_S501x500x8_0_1_2 (broadcastInDim S1x500x8 ![1, 2] bcast_S500x8_S1x500x8_1_2 y)

/-- The exponentials. -/
def exps (l : FVec Ideal S501x500x8 .f32) : FVec Ideal S501x500x8 .f32 := Host.exp (subf l (spread (largest l)))

/-- Their sums. -/
def sums (p : FVec Ideal S501x500x8 .f32) : FVec Ideal S500x8 .f32 :=
  Host.reduceAdd p (constant S_ .f32 0x00000000#32) reducesTo_S501x500x8_S500x8_d0 h_S_

/-- The softmax without the null entry. -/
def shares (p : FVec Ideal S501x500x8 .f32) : FVec Ideal S500x500x8 .f32 :=
  extractStridedSlice S500x500x8 ![0, 0, 0] (Host.divf p (spread (sums p))) slices_S501x500x8_S500x500x8_0_0_0

/-- The two aggregations, added. -/
def heads (v : FVec Ideal S500x16x128 .f32) (a : FVec Ideal S500x500x8 .f32) : FVec Ideal S500x8x128 .f32 :=
  addf
    (transpose S500x8x128 [2, 0, 1] (Host.dotGeneral dot_S500x8x128_S500x500x8_S8x128x500_0_0_2_1_1_2 none
      (extractStridedSlice S500x8x128 ![0, 0, 0] v slices_S500x16x128_S500x8x128_0_0_0) a) transposes_S8x128x500_S500x8x128_2_0_1)
    (transpose S500x8x128 [2, 0, 1] (Host.dotGeneral dot_S500x8x128_S500x500x8_S8x128x500_0_1_2_0_1_2 none
      (extractStridedSlice S500x8x128 ![0, 8, 0] v slices_S500x16x128_S500x8x128_0_8_0) a) transposes_S8x128x500_S500x8x128_2_0_1)

/-- The sum over the heads. -/
def allHeads (u : FVec Ideal S500x8x128 .f32) : FVec Ideal S500x128 .f32 :=
  Host.reduceAdd u (constant S_ .f32 0x00000000#32) reducesTo_S500x8x128_S500x128_d1 h_S_

/-- The gate. -/
def gated (u : FVec Ideal S500x128 .f32) : FVec Ideal S500x128 .f32 :=
  have half : FVec Ideal S500x128 .f32 := broadcastInDim S500x128 ![] bcast_S_S500x128 (constant S_ .f32 0x40900000#32)
  have one : FVec Ideal S500x128 .f32 := broadcastInDim S500x128 ![] bcast_S_S500x128 (constant S_ .f32 0x3F800000#32)
  have slope : FVec Ideal S500x128 .f32 := broadcastInDim S500x128 ![] bcast_S_S500x128 (constant S_ .f32 0x3FD9DB23#32)
  subf (mulf (addf u half) (Host.divf one (addf one (Host.exp (Host.negf (mulf slope (addf u half))))))) half

/-- The output matrix and the residual. -/
def final (x y : FVec Ideal S500x128 .f32) (o : FVec Ideal S128x129 .f32) : FVec Ideal S1x500x128 .f32 :=
  broadcastInDim S1x500x128 ![1, 2] bcast_S500x128_S1x500x128_1_2 (addf x (addf
    (Host.dotGeneral dot_S500x128_S128x128_S500x128_1_1_0_0_n_n none y (extractStridedSlice S128x128 ![0, 0] o slices_S128x129_S128x128_0_0))
    (broadcastInDim S500x128 ![0, 1] bcast_S1x128_S500x128_0_1 (broadcastInDim S1x128 ![1] bcast_S128_S1x128_1
      (shapeCast _ (extractStridedSlice S128x1 ![0, 128] o slices_S128x129_S128x1_0_128) shapeCasts_S128x1_S128)))))

/-- The exponents with the null entry, from the arguments. -/
def logits (x : FVec Ideal S1x500x128 .f32) (a : FVec Ideal S1024x129 .f32) (k : FVec Ideal S8x128 .f32) : FVec Ideal S501x500x8 .f32 :=
  withNull (exponents (distances (query (rows x) a) (key (rows x) k)))

/-- The whole reference. -/
def whole (x : FVec Ideal S1x500x128 .f32) (a : FVec Ideal S1024x129 .f32) (b : FVec Ideal S2048x129 .f32)
    (k : FVec Ideal S8x128 .f32) (o : FVec Ideal S128x129 .f32) : FVec Ideal S1x500x128 .f32 :=
  final (rows x) (gated (allHeads (heads (value (rows x) b) (shares (exps (logits x a k)))))) o

variable (m : (ℓ : Loc nD τ sig) → Buf (Elt Ideal) ℓ)

theorem whole_eq (c : Dev nD) : Value.res_main_v76 m c = whole (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  unfold Value.res_main_v76
  dsimp only [whole, final, gated, allHeads, heads, shares, sums, exps, spread, largest, logits, withNull, exponents, distances, key, query,
    value, rows]

/-! ## The stages at an index -/

/-- The column of the weights that holds the biases. -/
abbrev last : Fin 129 := 128

theorem bits_128 : Ideal.ofBits .f32 0x43000000#32 = ((128 : ℝ) : EReal) := by
  simp [Ideal.ofBits, Ideal.ieee, -EReal.coe_mul]
  norm_num

theorem bits_bot : Ideal.ofBits .f32 0xFF800000#32 = (⊥ : EReal) := by
  simp [Ideal.ofBits, Ideal.ieee]

theorem rows_at (x : FVec Ideal S1x500x128 .f32) (t : Fin 500) (w : Fin 128) : rows x (ix2 t w) = x (ix3 0 t w) := by
  pointwise [rows]

theorem query_at (x : FVec Ideal S500x128 .f32) (a : FVec Ideal S1024x129 .f32) (ha : ∀ j, a (ix2 j last) = 0)
    (t : Fin 500) (h : Fin 8) (w : Fin 128) :
    query x a (ix3 t h w) = ∑ i : Fin 128, x (ix2 t i) * a (ix2 ⟨h.val * 128 + w.val, by omega⟩ ⟨i.val, by omega⟩) := by
  pointwise [query]
  exact (congrArg (_ + ·) (ha _)).trans (add_zero _)

theorem value_at (x : FVec Ideal S500x128 .f32) (b : FVec Ideal S2048x129 .f32) (hb : ∀ j, b (ix2 j last) = 0)
    (t : Fin 500) (h : Fin 16) (w : Fin 128) :
    value x b (ix3 t h w) = ∑ i : Fin 128, x (ix2 t i) * b (ix2 ⟨h.val * 128 + w.val, by omega⟩ ⟨i.val, by omega⟩) := by
  pointwise [value]
  exact (congrArg (_ + ·) (hb _)).trans (add_zero _)

theorem key_at (x : FVec Ideal S500x128 .f32) (a : FVec Ideal S8x128 .f32) (t : Fin 500) (h : Fin 8) (w : Fin 128) :
    key x a (ix3 t h w) = x (ix2 t w) * a (ix2 h w) := by
  pointwise [key]

theorem distances_at (q k : FVec Ideal S500x8x128 .f32) (s t : Fin 500) (h : Fin 8) :
    distances q k (ix3 s t h) = ∑ w : Fin 128, gap (k (ix3 s h w)) (q (ix3 t h w)) := by
  pointwise [distances]
  exact Finset.sum_congr rfl fun w _ => Spec.gap_comm _ _

theorem exponents_at (d : FVec Ideal S500x500x8 .f32) (s t : Fin 500) (h : Fin 8) :
    exponents d (ix3 s t h) = Ideal.div (-d (ix3 s t h)) ((Real.sqrt 128 : ℝ) : EReal) := by
  pointwise [exponents]
  rw [bits_128, Ideal.sqrt_coe, if_neg (by norm_num)]

theorem withNull_at (d : FVec Ideal S500x500x8 .f32) (s : Fin 501) (t : Fin 500) (h : Fin 8) :
    withNull d (ix3 s t h) = if hs : s.val < 500 then d (ix3 ⟨s.val, hs⟩ t h) else 0 := by
  pointwise [withNull]

theorem withNull_token (d : FVec Ideal S500x500x8 .f32) (s t : Fin 500) (h : Fin 8) :
    withNull d (ix3 s.castSucc t h) = d (ix3 s t h) :=
  (withNull_at d _ t h).trans (dif_pos s.isLt)

theorem withNull_null (d : FVec Ideal S500x500x8 .f32) (t : Fin 500) (h : Fin 8) :
    withNull d (ix3 (Fin.last 500) t h) = 0 :=
  (withNull_at d _ t h).trans (dif_neg (lt_irrefl 500))

theorem largest_at (l : FVec Ideal S501x500x8 .f32) (t : Fin 500) (h : Fin 8) :
    largest l (ix2 t h) = Finset.univ.fold max ⊥ fun s : Fin 501 => l (ix3 s t h) := by
  pointwise [largest]
  rw [bits_bot]
  exact bot_sup_eq _

theorem exps_at (l : FVec Ideal S501x500x8 .f32) (s : Fin 501) (t : Fin 500) (h : Fin 8) :
    exps l (ix3 s t h) = Ideal.exp (l (ix3 s t h) - largest l (ix2 t h)) := by
  pointwise [exps, spread]

theorem sums_at (p : FVec Ideal S501x500x8 .f32) (t : Fin 500) (h : Fin 8) :
    sums p (ix2 t h) = ∑ s : Fin 501, p (ix3 s t h) := by
  pointwise [sums]

theorem shares_at (p : FVec Ideal S501x500x8 .f32) (s t : Fin 500) (h : Fin 8) :
    shares p (ix3 s t h) = Ideal.div (p (ix3 s.castSucc t h)) (sums p (ix2 t h)) := by
  pointwise [shares, spread]
  rfl

theorem heads_at (v : FVec Ideal S500x16x128 .f32) (a : FVec Ideal S500x500x8 .f32) (t : Fin 500) (h : Fin 8) (w : Fin 128) :
    heads v a (ix3 t h w) = ∑ s : Fin 500, a (ix3 s t h) * v (ix3 s ⟨h.val, by omega⟩ w)
      + ∑ d : Fin 500, a (ix3 t d h) * v (ix3 d ⟨8 + h.val, by omega⟩ w) := by
  pointwise [heads]
  exact congrArg₂ (· + ·) (Finset.sum_congr rfl fun _ _ => mul_comm _ _) (Finset.sum_congr rfl fun _ _ => mul_comm _ _)

theorem allHeads_at (u : FVec Ideal S500x8x128 .f32) (t : Fin 500) (w : Fin 128) :
    allHeads u (ix2 t w) = ∑ h : Fin 8, u (ix3 t h w) := by
  pointwise [allHeads]

theorem gated_at (u : FVec Ideal S500x128 .f32) (t : Fin 500) (w : Fin 128) :
    gated u (ix2 t w) = Spec.gate (Ideal.ofBits .f32 0x40900000#32) (Ideal.ofBits .f32 0x3FD9DB23#32) (u (ix2 t w)) := by
  pointwise [gated]
  rfl

theorem final_at (x y : FVec Ideal S500x128 .f32) (o : FVec Ideal S128x129 .f32) (ho : ∀ j, o (ix2 j last) = 0)
    (t : Fin 500) (w : Fin 128) :
    final x y o (ix3 0 t w) = x (ix2 t w) + ∑ i : Fin 128, y (ix2 t i) * o (ix2 w ⟨i.val, by omega⟩) := by
  pointwise [final]
  exact congrArg (_ + ·) ((congrArg (_ + ·) (ho _)).trans (add_zero _))

/-! ## The whole -/

section
variable (x : FVec Ideal S1x500x128 .f32) (a : FVec Ideal S1024x129 .f32) (b : FVec Ideal S2048x129 .f32)
  (k : FVec Ideal S8x128 .f32) (o : FVec Ideal S128x129 .f32)

/-- The tokens. -/
def tok (s : Fin 500) (w : Fin 128) : EReal := x (ix3 0 s w)

/-- The queries' weights, by heads. -/
def wq (h : Fin 8) (w i : Fin 128) : EReal := a (ix2 ⟨h.val * 128 + w.val, by omega⟩ ⟨i.val, by omega⟩)

/-- The forward values' weights, by heads. -/
def wf (h : Fin 8) (w i : Fin 128) : EReal := b (ix2 ⟨h.val * 128 + w.val, by omega⟩ ⟨i.val, by omega⟩)

/-- The backward values' weights, by heads. -/
def wb (h : Fin 8) (w i : Fin 128) : EReal := b (ix2 ⟨(8 + h.val) * 128 + w.val, by omega⟩ ⟨i.val, by omega⟩)

/-- The keys' scales. -/
def wk (h : Fin 8) (w : Fin 128) : EReal := k (ix2 h w)

/-- The output's weights. -/
def fan (j i : Fin 128) : EReal := o (ix2 j ⟨i.val, by omega⟩)

theorem distance_at (ha : ∀ j, a (ix2 j last) = 0) (s t : Fin 500) (h : Fin 8) :
    distances (query (rows x) a) (key (rows x) k) (ix3 s t h) = Spec.distance (tok x) (wq a) (wk k) h s t := by
  rw [distances_at]
  refine Finset.sum_congr rfl fun w _ => ?_
  rw [key_at, query_at _ _ ha, rows_at]
  simp only [rows_at]
  rfl

theorem logits_token (ha : ∀ j, a (ix2 j last) = 0) (s t : Fin 500) (h : Fin 8) :
    logits x a k (ix3 s.castSucc t h)
      = Ideal.div (-Spec.distance (tok x) (wq a) (wk k) h s t) ((Real.sqrt 128 : ℝ) : EReal) := by
  unfold logits
  rw [withNull_token, exponents_at, distance_at x a k ha]

theorem largest_zero (ha : ∀ j, a (ix2 j last) = 0) (t : Fin 500) (h : Fin 8) : largest (logits x a k) (ix2 t h) = 0 := by
  rw [largest_at]
  refine Spec.max_with_null _ (fun s => ?_) (withNull_null _ t h)
  induction s using Fin.lastCases with
  | last => exact (withNull_null _ t h).le
  | cast s =>
    rw [logits_token x a k ha]
    exact Spec.exponent_nonpos _ (Spec.distance_nonneg _ _ _ _ _ _)

theorem exps_token (ha : ∀ j, a (ix2 j last) = 0) (s t : Fin 500) (h : Fin 8) :
    exps (logits x a k) (ix3 s.castSucc t h) = weight (Spec.distance (tok x) (wq a) (wk k) h s t) := by
  rw [exps_at, largest_zero x a k ha, sub_zero, logits_token x a k ha, Spec.weight_eq _ (Spec.distance_nonneg _ _ _ _ _ _)]

theorem exps_null (ha : ∀ j, a (ix2 j last) = 0) (t : Fin 500) (h : Fin 8) :
    exps (logits x a k) (ix3 (Fin.last 500) t h) = 1 := by
  rw [exps_at, largest_zero x a k ha, sub_zero]
  unfold logits
  rw [withNull_null, ← EReal.coe_zero, Ideal.exp_coe, Real.exp_zero, EReal.coe_one]

theorem share_at (ha : ∀ j, a (ix2 j last) = 0) (s t : Fin 500) (h : Fin 8) :
    shares (exps (logits x a k)) (ix3 s t h) = Spec.share (tok x) (wq a) (wk k) h s t := by
  rw [shares_at, sums_at, Fin.sum_univ_castSucc, exps_null x a k ha]
  simp only [exps_token x a k ha]
  exact Spec.div_eq (Spec.total_ne_zero _ _ _ _ _) _

/-- The reference computes the mathematics when the biases are zero. -/
theorem whole_at (ha : ∀ j, a (ix2 j last) = 0) (hb : ∀ j, b (ix2 j last) = 0) (ho : ∀ j, o (ix2 j last) = 0)
    (t : Fin 500) (w : Fin 128) :
    whole x a b k o (ix3 0 t w) = Spec.out (tok x) (wq a) (wf b) (wb b) (wk k) (fan o)
      (Ideal.ofBits .f32 0x40900000#32) (Ideal.ofBits .f32 0x3FD9DB23#32) t w := by
  unfold whole
  rw [final_at _ _ _ ho, rows_at]
  refine congrArg₂ (· + ·) rfl (Finset.sum_congr rfl fun i _ => ?_)
  rw [gated_at, allHeads_at]
  refine congrArg (fun z => Spec.gate _ _ z * _) (Finset.sum_congr rfl fun h _ => ?_)
  rw [heads_at]
  refine congrArg₂ (· + ·) (Finset.sum_congr rfl fun s _ => ?_) (Finset.sum_congr rfl fun s _ => ?_)
  · rw [share_at x a k ha, value_at _ _ hb]
    simp only [rows_at]
    rfl
  · rw [share_at x a k ha, value_at _ _ hb]
    simp only [rows_at]
    rfl

end

end Cert.ReferenceIdeal.Stages

end
-- ==== Proof.Body.lean ====
/- What one grid point of the kernel computes, as a function of its input blocks: the 64 rows by 128 columns of
   absolute differences are written once, as a step repeated, instead of 1024 times as the program spells them. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- A column of a 64-row block lies inside it. -/
theorem col_slices {w : ℕ} (hw : w < 128) : S64x128.Slices ![0, w] S64x1 := by
  refine ⟨rfl, fun a => ?_⟩
  fin_cases a
  · exact le_refl 64
  · exact hw

/-- A row of the transposed queries lies inside them. -/
theorem row_slices {w : ℕ} (hw : w < 128) : S128x512.Slices ![w, 0] S1x512 := by
  refine ⟨rfl, fun a => ?_⟩
  fin_cases a
  · exact hw
  · exact le_refl 512

section
variable {F : FTy → Type} [FloatOps F] [Named F]

/-- Column `w` of the block of keys, repeated along the lanes. -/
def kcol (k : FVec F S64x128 .bf16) (w : ℕ) (hw : w < 128) : FVec F S64x512 .bf16 :=
  broadcastTo S64x512 (shapeCast S64x1 (shapeCast S64 (extractStridedSlice S64x1 ![0, w] k (col_slices hw))
    shapeCasts_S64x1_S64) shapeCasts_S64_S64x1) broadcasts_S64x1_S64x512

/-- Row `w` of the transposed queries, as a block of one row. -/
def qrow (q : FVec F S128x512 .bf16) (w : ℕ) (hw : w < 128) : FVec F S1x512 .bf16 :=
  shapeCast S1x512 (shapeCast S512 (extractStridedSlice S1x512 ![w, 0] q (row_slices hw))
    shapeCasts_S1x512_S512) shapeCasts_S512_S1x512

/-- The absolute differences of one column. -/
def dist (k : FVec F S64x128 .bf16) (q : FVec F S128x512 .bf16) (w : ℕ) (hw : w < 128) : FVec F S64x512 .bf16 :=
  absf (subf (kcol k w hw) (broadcastTo S64x512 (qrow q w hw) broadcasts_S1x512_S64x512))

/-- The running sum of the absolute differences of the first `n` columns of one parity `p`. -/
def acc (k : FVec F S64x128 .bf16) (q : FVec F S128x512 .bf16) (p : ℕ) (hp : p < 2) :
    (n : ℕ) → n ≤ 64 → FVec F S64x512 .bf16
  | 0, _ => broadcast S64x512 (Scalar.ofBits .bf16 0x0000#16)
  | n + 1, h => addf (acc k q p hp n (by omega)) (dist k q (2 * n + p) (by omega))

/-- The distances of one block of keys: even columns plus odd columns. -/
def chunk (k : FVec F S64x128 .bf16) (q : FVec F S128x512 .bf16) : FVec F S64x512 .bf16 :=
  addf (acc k q 0 (by omega) 64 (le_refl _)) (acc k q 1 (by omega) 64 (le_refl _))

/-- What one head adds to the carried sum: the program's last computation over the eight blocks of distances (the last
    block's final odd column is added inside that computation). -/
def headOut (x0 : Vec F S512x128 .f32) (x1 x2 x3 : Vec F S1x128x128 .f32) (x4 : Vec F S1x1x128 .f32) :
    FVec F S512x128 .f32 :=
  k0_pay637 (k0_pay3 x0)
    (chunk (extractStridedSlice S64x128 ![0, 0] (k0_pay4 x0 x4) slices_S512x128_o0_0_S64x128) (k0_pay5 x0 x1))
    (chunk (extractStridedSlice S64x128 ![64, 0] (k0_pay4 x0 x4) slices_S512x128_o64_0_S64x128) (k0_pay5 x0 x1))
    (chunk (extractStridedSlice S64x128 ![128, 0] (k0_pay4 x0 x4) slices_S512x128_o128_0_S64x128) (k0_pay5 x0 x1))
    (chunk (extractStridedSlice S64x128 ![192, 0] (k0_pay4 x0 x4) slices_S512x128_o192_0_S64x128) (k0_pay5 x0 x1))
    (chunk (extractStridedSlice S64x128 ![256, 0] (k0_pay4 x0 x4) slices_S512x128_o256_0_S64x128) (k0_pay5 x0 x1))
    (chunk (extractStridedSlice S64x128 ![320, 0] (k0_pay4 x0 x4) slices_S512x128_o320_0_S64x128) (k0_pay5 x0 x1))
    (chunk (extractStridedSlice S64x128 ![384, 0] (k0_pay4 x0 x4) slices_S512x128_o384_0_S64x128) (k0_pay5 x0 x1))
    (acc (extractStridedSlice S64x128 ![448, 0] (k0_pay4 x0 x4) slices_S512x128_o448_0_S64x128) (k0_pay5 x0 x1)
      1 (by omega) 63 (by omega))
    (acc (extractStridedSlice S64x128 ![448, 0] (k0_pay4 x0 x4) slices_S512x128_o448_0_S64x128) (k0_pay5 x0 x1)
      0 (by omega) 64 (le_refl _))
    (kcol (extractStridedSlice S64x128 ![448, 0] (k0_pay4 x0 x4) slices_S512x128_o448_0_S64x128) 127 (by omega))
    (qrow (k0_pay5 x0 x1) 127 (by omega))
    x2 x3

end

variable (m : (ℓ : Loc nD τ sig) → Buf (Elt Ideal) ℓ)

/-- What the head of grid point `t` adds to the carried sum. -/
def headAt (c : Dev nD) (t : Fin cfg0.N) : FVec Ideal S512x128 .f32 :=
  headOut (iblk m c 0 t) (iblk m c 1 t) (iblk m c 2 t) (iblk m c 3 t) (iblk m c 4 t)

/-- The contribution read argument by argument. -/
theorem pay637_congr {F : FTy → Type} [FloatOps F] [Named F] {a a' : FVec F S512x128 .bf16}
    {c0 c0' c1 c1' c2 c2' c3 c3' c4 c4' c5 c5' c6 c6' o o' e e' k k' : FVec F S64x512 .bf16}
    {q q' : FVec F S1x512 .bf16} {u u' v v' : Vec F S1x128x128 .f32}
    (ha : a = a') (h0 : c0 = c0') (h1 : c1 = c1') (h2 : c2 = c2') (h3 : c3 = c3') (h4 : c4 = c4') (h5 : c5 = c5')
    (h6 : c6 = c6') (ho : o = o') (he : e = e') (hk : k = k') (hq : q = q') (hu : u = u') (hv : v = v') :
    k0_pay637 a c0 c1 c2 c3 c4 c5 c6 o e k q u v = k0_pay637 a' c0' c1' c2' c3' c4' c5' c6' o' e' k' q' u' v' := by
  subst ha h0 h1 h2 h3 h4 h5 h6 ho he hk hq hu hv
  rfl

/-- The first point leaves its head's contribution in the carried sum. -/
theorem carried_first (c : Dev nD) (t : Fin cfg0.N) (h0 : t.val % 8 = 0) (h1 : ¬1 ≤ t.val) (h2 : ¬t.val % 8 = 7) :
    (outsAt0 m c t.val t.isLt).2 = headAt m c t := by
  rw [outsAt0_A m c t h0 h1 h2]
  frame_out
  unfold k0_pay638
  dsimp only
  rw [shapeCast_self]
  unfold headAt headOut
  refine pay637_congr ?_ ?_ ?_ ?_ ?_ ?_ ?_ ?_ ?_ ?_ ?_ ?_ ?_ ?_
  all_goals sl_kernel_rfl

/-- A middle point adds its head's contribution to what the point before left. -/
theorem carried_middle (c : Dev nD) (t : Fin cfg0.N) (h0 : ¬t.val % 8 = 0) (h1 : 1 ≤ t.val) (h2 : ¬t.val % 8 = 7) :
    (outsAt0 m c t.val t.isLt).2 = addf (outsAt0 m c (t.val - 1) (by omega)).2 (headAt m c t) := by
  rw [outsAt0_B m c t h0 h1 h2]
  frame_out
  unfold k0_pay639
  dsimp only
  rw [shapeCast_self]
  refine congrArg₂ addf ((Memref.isWhole_whole _).read_unread _) ?_
  unfold headAt headOut
  refine pay637_congr ?_ ?_ ?_ ?_ ?_ ?_ ?_ ?_ ?_ ?_ ?_ ?_ ?_ ?_
  all_goals sl_kernel_rfl

/-- The last point writes the result from the completed sum. -/
theorem written_last (c : Dev nD) (t : Fin cfg0.N) (h0 : ¬t.val % 8 = 0) (h1 : 1 ≤ t.val) (h2 : t.val % 8 = 7) :
    (outsAt0 m c t.val t.isLt).1
      = k0_pay1 (iblk m c 0 t) (addf (outsAt0 m c (t.val - 1) (by omega)).2 (headAt m c t)) (iblk m c 5 t) := by
  rw [outsAt0_C m c t h0 h1 h2]
  frame_out
  refine congrArg₂ (fun a b => k0_pay1 a b _) ?_ ?_
  · unfold k0_pay2
    dsimp only
    rw [shapeCast_self]
  unfold k0_pay639
  dsimp only
  rw [shapeCast_self]
  refine congrArg₂ addf ((Memref.isWhole_whole _).read_unread _) ?_
  unfold headAt headOut
  refine pay637_congr ?_ ?_ ?_ ?_ ?_ ?_ ?_ ?_ ?_ ?_ ?_ ?_ ?_ ?_
  all_goals sl_kernel_rfl

end Cert.KernelIdeal.Value

end
-- ==== Proof.Dist.lean ====
/- The kernel's distances read at an index: the sum over the 128 columns of the absolute differences. -/
module

public import proofs.«01_k».proof.Proof.Body
public import proofs.«01_k».proof.Proof.Spec
public import Idealize.ShloMosaic.Lib.Pointwise

@[expose] public section

set_option maxRecDepth 16384

noncomputable section

open Idealize.ShloMosaic Idealize.ShloMosaic.TcCoe Idealize.SL.Sem
open Cert.Spec (gap)

namespace Cert.KernelIdeal.Value

open Cert.KernelIdeal Cert.KernelIdeal.Gen

theorem dist_at (k : FVec Ideal S64x128 .bf16) (q : FVec Ideal S128x512 .bf16) (w : ℕ) (hw : w < 128)
    (s : Fin 64) (t : Fin 512) :
    dist k q w hw (ix2 s t) = gap (k (ix2 s ⟨w, hw⟩)) (q (ix2 ⟨w, hw⟩ t)) := by
  pointwise [dist, kcol, qrow]
  rfl

theorem acc_at (k : FVec Ideal S64x128 .bf16) (q : FVec Ideal S128x512 .bf16) (p : ℕ) (hp : p < 2)
    (s : Fin 64) (t : Fin 512) : (n : ℕ) → (hn : n ≤ 64) →
    acc k q p hp n hn (ix2 s t)
      = ∑ i : Fin n, gap (k (ix2 s ⟨2 * i.val + p, by omega⟩)) (q (ix2 ⟨2 * i.val + p, by omega⟩ t))
  | 0, _ => by
    rw [Fin.sum_univ_zero]
    pointwise [acc]
  | n + 1, hn => by
    rw [Fin.sum_univ_castSucc]
    show acc k q p hp n _ (ix2 s t) + dist k q (2 * n + p) _ (ix2 s t) = _
    rw [acc_at k q p hp s t n, dist_at]
    rfl

theorem chunk_at (k : FVec Ideal S64x128 .bf16) (q : FVec Ideal S128x512 .bf16) (s : Fin 64) (t : Fin 512) :
    chunk k q (ix2 s t) = ∑ w : Fin 128, gap (k (ix2 s w)) (q (ix2 w t)) := by
  show acc k q 0 _ 64 _ (ix2 s t) + acc k q 1 _ 64 _ (ix2 s t) = _
  rw [acc_at, acc_at, ← Finset.sum_add_distrib]
  refine Eq.trans ?_ (Fin.sum_univ_tiles 64 2 rfl fun w => gap (k (ix2 s w)) (q (ix2 w t))).symm
  refine Finset.sum_congr rfl fun i _ => ?_
  rw [Fin.sum_univ_two]
  have e0 : ∀ h h', (⟨2 * i.val + 0, h⟩ : Fin 128) = ⟨i.val * 2 + (0 : Fin 2).val, h'⟩ :=
    fun _ _ => Fin.ext (by simp; omega)
  have e1 : ∀ h h', (⟨2 * i.val + 1, h⟩ : Fin 128) = ⟨i.val * 2 + (1 : Fin 2).val, h'⟩ :=
    fun _ _ => Fin.ext (by simp; omega)
  rw [e0, e1]

/-- The eight blocks of distances, stacked. -/
def stacked (c : Fin 8 → FVec Ideal S64x512 .bf16) : FVec Ideal S512x512 .bf16 :=
  concatenate S512x512 0 (List.ofFn fun n : Fin 8 => (⟨S64x512, c n⟩ : (s : Shape) × (s.Idx → Ideal .bf16)))
    concatenates_S64x512_S64x512_S64x512_S64x512_S64x512_S64x512_S64x512_S64x512_S512x512_d0

theorem stacked_at (c : Fin 8 → FVec Ideal S64x512 .bf16) (s t : Fin 512) :
    stacked c (ix2 s t) = c ⟨s.val / 64, by omega⟩ (ix2 ⟨s.val % 64, by omega⟩ t) := by
  refine concatenate_ofFn_apply (t := S512x512) (s₁ := S64x512) 0 c _ rfl 64 rfl (ix2 s t) ⟨s.val / 64, by omega⟩ rfl
    (ix2 ⟨s.val % 64, by omega⟩ t) rfl fun b hb => ?_
  fin_cases b
  · exact absurd rfl hb
  · rfl

/-- The kernel's scaled keys and its transposed queries, of one head. -/
abbrev keys (x0 : FVec Ideal S512x128 .f32) (x4 : FVec Ideal S1x1x128 .f32) : FVec Ideal S512x128 .bf16 := k0_pay4 x0 x4
abbrev queries (x0 : FVec Ideal S512x128 .f32) (x1 : FVec Ideal S1x128x128 .f32) : FVec Ideal S128x512 .bf16 := k0_pay5 x0 x1

/-- Rows `64 n` to `64 n + 63` lie inside the 512. -/
theorem rows_slices (n : Fin 8) : S512x128.Slices ![64 * n.val, 0] S64x128 := by
  refine ⟨rfl, fun a => ?_⟩
  fin_cases a
  · show 64 * n.val + 64 ≤ 512
    omega
  · exact le_refl 128

/-- Block `n` of the distances. -/
def block (k : FVec Ideal S512x128 .bf16) (q : FVec Ideal S128x512 .bf16) (n : Fin 8) : FVec Ideal S64x512 .bf16 :=
  chunk (extractStridedSlice S64x128 ![64 * n.val, 0] k (rows_slices n)) q

theorem block_at (k : FVec Ideal S512x128 .bf16) (q : FVec Ideal S128x512 .bf16) (n : Fin 8) (s : Fin 64) (t : Fin 512) :
    block k q n (ix2 s t) = ∑ w : Fin 128, gap (k (ix2 ⟨64 * n.val + s.val, by omega⟩ w)) (q (ix2 w t)) := by
  unfold block
  rw [chunk_at]
  refine Finset.sum_congr rfl fun w _ => ?_
  pointwise

theorem distances_at (k : FVec Ideal S512x128 .bf16) (q : FVec Ideal S128x512 .bf16) (s t : Fin 512) :
    stacked (block k q) (ix2 s t) = ∑ w : Fin 128, gap (k (ix2 s w)) (q (ix2 w t)) := by
  rw [stacked_at, block_at]
  have e : ∀ h, (⟨64 * (s.val / 64) + s.val % 64, h⟩ : Fin 512) = s := fun _ => Fin.ext (Nat.div_add_mod _ _)
  simp only [e]

/-- The program's last computation of a head, over the stacked distances. -/
def tail (x : FVec Ideal S512x128 .bf16) (d : FVec Ideal S512x512 .bf16) (u v : FVec Ideal S1x128x128 .f32) :
    FVec Ideal S512x128 .f32 :=
  have e : FVec Ideal S512x512 .bf16 := exp2 (mulf d (broadcast S512x512 (Named.named κ "c1" 0xBE03#16)))
  have den : FVec Ideal S1x512 .f32 := extf .f32 (truncf .bf16 (shapeCast S1x512
    (multiReduction .add [0] S512 (extf .f32 e bitsLt_bf16_f32) 0x00000000#32 reduces_S512x512_S512 (.inl rfl) rfl)
    shapeCasts_S512_S1x512) bitsLt_bf16_f32) bitsLt_bf16_f32
  have one : FVec Ideal S1x512 .f32 := broadcast S1x512 (Scalar.ofBits .f32 0x3F800000#32)
  have r : FVec Ideal S1x512 .bf16 := truncf .bf16 (divf one (addf den one)) bitsLt_bf16_f32
  have a : FVec Ideal S512x512 .bf16 := mulf e (broadcastTo S512x512 r broadcasts_S1x512_S512x512)
  have z : FVec Ideal S512x128 .f32 := constant S512x128 .f32 0x00000000#32
  have vf : FVec Ideal S512x128 .bf16 := truncf .bf16 (matmul dot_S512x128_S128x128_S512x128_1_1_0_0_n_n none x
    (truncf .bf16 (shapeCast S128x128 u shapeCasts_S1x128x128_S128x128) bitsLt_bf16_f32 : FVec Ideal S128x128 .bf16) z) bitsLt_bf16_f32
  have vb : FVec Ideal S512x128 .bf16 := truncf .bf16 (matmul dot_S512x128_S128x128_S512x128_1_1_0_0_n_n none x
    (truncf .bf16 (shapeCast S128x128 v shapeCasts_S1x128x128_S128x128) bitsLt_bf16_f32 : FVec Ideal S128x128 .bf16) z) bitsLt_bf16_f32
  addf (matmul dot_S512x512_S512x128_S512x128_0_0_1_1_n_n none a vf z)
    (matmul dot_S512x512_S512x128_S512x128_1_0_0_1_n_n none a vb z)

theorem headOut_eq (x0 : FVec Ideal S512x128 .f32) (x1 x2 x3 : FVec Ideal S1x128x128 .f32) (x4 : FVec Ideal S1x1x128 .f32) :
    headOut (F := Ideal) x0 x1 x2 x3 x4 = tail (k0_pay3 x0) (stacked (block (keys x0 x4) (queries x0 x1))) x2 x3 := by
  sl_kernel_rfl

end Cert.KernelIdeal.Value

end
-- ==== Proof.Head.lean ====
/- One head's contribution, read at a token: the padded rows drop out, and what is left is the head of the
   mathematics. -/
module

public import proofs.«01_k».proof.Proof.Dist
public import Idealize.ShloMosaic.PureOps.IdealRules

@[expose] public section

set_option maxRecDepth 16384

noncomputable section

open Idealize.ShloMosaic Idealize.ShloMosaic.TcCoe Idealize.SL.Sem
open Cert.Spec (gap weight lin)

namespace Cert.KernelIdeal.Value

open Cert.KernelIdeal Cert.KernelIdeal.Gen

theorem named_far : Named.named (F := Ideal) κ (φ := .f32) "far" 0x45800000#32 = (⊤ : EReal) :=
  IdealRules.named_const.ideal_named_scalar _ _ _ _ rfl

theorem named_c1 : Named.named (F := Ideal) κ (φ := .bf16) "c1" 0xBE03#16 = Spec.c1 :=
  IdealRules.named_const.ideal_named_scalar _ _ _ _ rfl

theorem tail_at (x0 : FVec Ideal S512x128 .f32) (d : FVec Ideal S512x512 .bf16) (u v : FVec Ideal S1x128x128 .f32)
    (t : Fin 512) (w : Fin 128) :
    tail (k0_pay3 x0) d u v (ix2 t w)
      = ∑ s : Fin 512, weight (d (ix2 s t)) * Ideal.div 1 (∑ s' : Fin 512, weight (d (ix2 s' t)) + 1)
            * ∑ i : Fin 128, x0 (ix2 s i) * u (ix3 0 w i)
        + ∑ s : Fin 512, weight (d (ix2 t s)) * Ideal.div 1 (∑ s' : Fin 512, weight (d (ix2 s' s)) + 1)
            * ∑ i : Fin 128, x0 (ix2 s i) * v (ix3 0 w i) := by
  pointwise [tail, k0_pay3, k0_pay2]
  rw [named_c1]
  rfl

theorem keys_at (x0 : FVec Ideal S512x128 .f32) (x4 : FVec Ideal S1x1x128 .f32) (s : Fin 512) (w : Fin 128) :
    keys x0 x4 (ix2 s w) = if s.val < 500 then x0 (ix2 s w) * x4 (ix3 0 0 w) else ⊤ := by
  pointwise [keys, k0_pay4, k0_pay2]
  rw [named_far]
  have e : ∀ s : Fin 512, IntOp.cmpi CmpIPredicate.slt (BitVec.ofNat 32 s.val) 500#32 = if s.val < 500 then 1#1 else 0#1 := by
    decide +kernel
  rw [e]
  split <;> rfl

theorem queries_at (x0 : FVec Ideal S512x128 .f32) (x1 : FVec Ideal S1x128x128 .f32) (s : Fin 512) (w : Fin 128) :
    queries x0 x1 (ix2 w s) = ∑ i : Fin 128, x0 (ix2 s i) * x1 (ix3 0 w i) := by
  pointwise [queries, k0_pay5, k0_pay3, k0_pay2]

theorem last_at (x0 a : FVec Ideal S512x128 .f32) (x5 : FVec Ideal S128x128 .f32) (s : Fin 512) (w : Fin 128) :
    k0_pay1 x0 a x5 (ix2 s w)
      = x0 (ix2 s w) + ∑ i : Fin 128, Spec.gate (Ideal.ofBits .f32 0x40900000#32) (Ideal.ofBits .f32 0x3FD9DB23#32)
          (a (ix2 s i)) * x5 (ix2 w i) := by
  pointwise [k0_pay1]
  rfl

/-- A sum with an infinite term among nonnegative ones is infinite. -/
theorem sum_gap_top (b : Fin 128 → EReal) : ∑ w, gap ⊤ (b w) = ⊤ := by
  refine top_le_iff.mp ?_
  refine (Spec.gap_top (b 0)).symm.le.trans ?_
  exact Finset.single_le_sum (f := fun w => gap ⊤ (b w)) (fun w _ => Spec.gap_nonneg _ _) (Finset.mem_univ 0)

/-- The head of tokens `x` whose rows are followed by twelve rows of zeros. -/
theorem head_at (x : Fin 500 → Fin 128 → EReal) (wq wf wb : Fin 8 → Fin 128 → Fin 128 → EReal) (wk : Fin 8 → Fin 128 → EReal)
    (h : Fin 8)
    (x0 : FVec Ideal S512x128 .f32) (x1 x2 x3 : FVec Ideal S1x128x128 .f32) (x4 : FVec Ideal S1x1x128 .f32)
    (e0 : ∀ (s : Fin 512) (w : Fin 128), x0 (ix2 s w) = if hs : s.val < 500 then x ⟨s.val, hs⟩ w else 0)
    (e1 : ∀ w i : Fin 128, x1 (ix3 0 w i) = wq h w i) (e2 : ∀ w i : Fin 128, x2 (ix3 0 w i) = wf h w i)
    (e3 : ∀ w i : Fin 128, x3 (ix3 0 w i) = wb h w i) (e4 : ∀ w : Fin 128, x4 (ix3 0 0 w) = wk h w)
    (t : Fin 500) (w : Fin 128) :
    headOut (F := Ideal) x0 x1 x2 x3 x4 (ix2 ⟨t.val, by omega⟩ w) = Spec.head x wq wf wb wk h t w := by
  have row : ∀ (s : Fin 500) (hs : s.val < 512) (i : Fin 128), x0 (ix2 ⟨s.val, hs⟩ i) = x s i := fun s hs i => by
    rw [e0, dif_pos s.isLt]
  have padRow : ∀ (s : Fin 512) (i : Fin 128), 500 ≤ s.val → x0 (ix2 s i) = 0 := fun s i hs => by
    rw [e0, dif_neg (by omega)]
  rw [headOut_eq, tail_at]
  have far : ∀ s t : Fin 512, 500 ≤ s.val → weight (stacked (block (keys x0 x4) (queries x0 x1)) (ix2 s t)) = 0 := by
    intro s t hs
    rw [distances_at]
    have e : ∀ w : Fin 128, keys x0 x4 (ix2 s w) = ⊤ := fun w => by rw [keys_at, if_neg (by omega)]
    simp only [e]
    rw [sum_gap_top, Spec.weight_top]
  have near : ∀ (s t : Fin 500) (hs : s.val < 512) (ht : t.val < 512),
      stacked (block (keys x0 x4) (queries x0 x1)) (ix2 ⟨s.val, hs⟩ ⟨t.val, ht⟩) = Spec.distance x wq wk h s t := by
    intro s t hs ht
    rw [distances_at]
    refine Finset.sum_congr rfl fun w _ => ?_
    rw [keys_at, queries_at, if_pos s.isLt, row, e4]
    simp only [row, e1]
    rfl
  have total : ∀ (t : Fin 500) (ht : t.val < 512),
      ∑ s' : Fin 512, weight (stacked (block (keys x0 x4) (queries x0 x1)) (ix2 s' ⟨t.val, ht⟩))
        = ∑ s' : Fin 500, weight (Spec.distance x wq wk h s' t) := by
    intro t ht
    rw [Spec.sum_padded _ fun s hs => far s _ hs]
    exact Finset.sum_congr rfl fun s _ => congrArg weight (near s t _ _)
  have zeroRow : ∀ (s : Fin 512) (u : Fin 128 → EReal), 500 ≤ s.val → ∑ i : Fin 128, x0 (ix2 s i) * u i = 0 := by
    intro s u hs
    exact Finset.sum_eq_zero fun i _ => by rw [padRow s i hs, zero_mul]
  refine congrArg₂ (· + ·)
    ((Spec.sum_padded _ fun s hs => ?_).trans (Finset.sum_congr rfl fun s _ => ?_))
    ((Spec.sum_padded _ fun s hs => ?_).trans (Finset.sum_congr rfl fun s _ => ?_))
  · rw [zeroRow s _ hs, mul_zero]
  · rw [near s t, total t]
    simp only [row, e2]
    rfl
  · rw [zeroRow s _ hs, mul_zero]
  · rw [near t s, total s]
    simp only [row, e3]
    rfl

end Cert.KernelIdeal.Value

end
-- ==== Proof.Host.lean ====
/- What the launch reads and leaves: each window's block over the arguments. -/
module

public import proofs.«01_k».proof.Proof.Head
public import Idealize.ShloMosaic.Lib.Claim
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![t.val, 0, 0] := by decide +kernel
theorem idx3 : ∀ t : Fin cfg0.N, win0_3.index t = ![t.val, 0, 0] := by decide +kernel
theorem idx4 : ∀ t : Fin cfg0.N, win0_4.index t = ![t.val, 0, 0] := by decide +kernel
theorem idx5 : ∀ t : Fin cfg0.N, win0_5.index t = ![0, 0] := by decide +kernel
theorem idx6 : ∀ t : Fin cfg0.N, win0_6.index t = ![0, 0] := by decide +kernel

/-- The copy of the tokens into the first rows of a padded block. -/
def copyIn (x : FVec Ideal S512x128 .f32) (i : IVec S1 32) (u : FVec Ideal S500x128 .f32) : FVec Ideal S512x128 .f32 :=
  Host.scatter scatter_S512x128_S1_S500x128_01_n_0_0 (fun _ b => b) x i u

theorem copyIn_def : (fun (x : FVec Ideal S512x128 .f32) (i : IVec S1 32) (u : FVec Ideal S500x128 .f32) =>
    Host.scatter scatter_S512x128_S1_S500x128_01_n_0_0 (fun _ b => b) x i u) = copyIn := rfl

theorem entry_x (c : Dev nD) : V m c main_call0_v3
    = copyIn (broadcastInDim S512x128 ![] bcast_S_S512x128 (constant (F := Ideal) S_ .f32 0x00000000#32))
        (broadcastInDim S1 ![] bcast_S_S1 (constantI S_ 32 0#32))
        (shapeCast S500x128 (m ((c.tc : Thread nD τ).loc main_arg0)) shapeCasts_S1x500x128_S500x128) := by
  show StableHlo.after hostOps0 (fun b => m (c, b)) (Proc.devRef .tc _) = _
  after_results
  rw [copyIn_def]
  generalize copyIn = f
  refine congr (congr (congrArg f ?_) ?_) ?_ <;> rfl

theorem entry_q (c : Dev nD) : V m c main_call0_v5
    = shapeCast S8x128x128 (extractStridedSlice S1024x128 ![0, 0] (m ((c.tc : Thread nD τ).loc main_arg1)) slices_S1024x129_S1024x128_0_0)
        shapeCasts_S1024x128_S8x128x128 := by
  show StableHlo.after hostOps0 (fun b => m (c, b)) (Proc.devRef .tc _) = _
  after_results
  sl_kernel_rfl

theorem entry_f (c : Dev nD) : V m c main_call0_v8
    = extractStridedSlice S8x128x128 ![0, 0, 0] (shapeCast S16x128x128 (extractStridedSlice S2048x128 ![0, 0] (m ((c.tc : Thread nD τ).loc main_arg2)) slices_S2048x129_S2048x128_0_0)
          shapeCasts_S2048x128_S16x128x128) slices_S16x128x128_S8x128x128_0_0_0 := by
  show StableHlo.after hostOps0 (fun b => m (c, b)) (Proc.devRef .tc _) = _
  after_results
  sl_kernel_rfl

theorem entry_b (c : Dev nD) : V m c main_call0_v9
    = extractStridedSlice S8x128x128 ![8, 0, 0] (shapeCast S16x128x128 (extractStridedSlice S2048x128 ![0, 0] (m ((c.tc : Thread nD τ).loc main_arg2)) slices_S2048x129_S2048x128_0_0)
          shapeCasts_S2048x128_S16x128x128) slices_S16x128x128_S8x128x128_8_0_0 := by
  show StableHlo.after hostOps0 (fun b => m (c, b)) (Proc.devRef .tc _) = _
  after_results
  sl_kernel_rfl

theorem entry_k (c : Dev nD) : V m c main_call0_v10
    = shapeCast S8x1x128 (m ((c.tc : Thread nD τ).loc main_arg3)) shapeCasts_S8x128_S8x1x128 := by
  show StableHlo.after hostOps0 (fun b => m (c, b)) (Proc.devRef .tc _) = _
  after_results
  sl_kernel_rfl

theorem entry_o (c : Dev nD) : V m c main_call0_v11
    = extractStridedSlice S128x128 ![0, 0] (m ((c.tc : Thread nD τ).loc main_arg4)) slices_S128x129_S128x128_0_0 := by
  show StableHlo.after hostOps0 (fun b => m (c, b)) (Proc.devRef .tc _) = _
  after_results
  sl_kernel_rfl

/-- Where the copy of the tokens into the padded block puts each of its elements. -/
theorem lands (k : S500x128.Idx) :
    scatter_S512x128_S1_S500x128_01_n_0_0.resultIdx? k (broadcastInDim S1 ![] bcast_S_S1 (constantI S_ 32 0#32))
      = some (ix2 ⟨(k 0).val, lt_trans (k 0).isLt (by decide)⟩ (k 1)) := by
  have hs : ∀ a, scatter_S512x128_S1_S500x128_01_n_0_0.start k (broadcastInDim S1 ![] bcast_S_S1 (constantI S_ 32 0#32)) a = 0 := by
    intro a
    unfold ScatterDims.start
    split <;> rfl
  have hw0 : scatter_S512x128_S1_S500x128_01_n_0_0.window k 0 = (k 0).val := rfl
  have hw1 : scatter_S512x128_S1_S500x128_01_n_0_0.window k 1 = (k 1).val := rfl
  have h0 : (k 0).val < 500 := (k 0).isLt
  have h1 : (k 1).val < 128 := (k 1).isLt
  unfold ScatterDims.resultIdx?
  rw [dif_pos fun a => ?_]
  · refine congrArg some (funext fun a => Fin.ext ?_)
    match a with
    | ⟨0, _⟩ =>
      exact (congrArg₂ (fun (z : ℤ) (y : ℕ) => (z + (y : ℤ)).toNat) (hs 0) hw0).trans (by simp)
    | ⟨1, _⟩ =>
      exact (congrArg₂ (fun (z : ℤ) (y : ℕ) => (z + (y : ℤ)).toNat) (hs 1) hw1).trans (by simp)
  · rw [hs]
    match a with
    | ⟨0, _⟩ =>
      show 0 ≤ 0 + ((scatter_S512x128_S1_S500x128_01_n_0_0.window k 0 : ℕ) : ℤ) ∧ 0 + ((scatter_S512x128_S1_S500x128_01_n_0_0.window k 0 : ℕ) : ℤ) < (512 : ℕ)
      rw [hw0]
      omega
    | ⟨1, _⟩ =>
      show 0 ≤ 0 + ((scatter_S512x128_S1_S500x128_01_n_0_0.window k 1 : ℕ) : ℤ) ∧ 0 + ((scatter_S512x128_S1_S500x128_01_n_0_0.window k 1 : ℕ) : ℤ) < (128 : ℕ)
      rw [hw1]
      omega

theorem padded_at (x : FVec Ideal S500x128 .f32) (s : Fin 512) (w : Fin 128) :
    copyIn
        (broadcastInDim S512x128 ![] bcast_S_S512x128 (constant (F := Ideal) S_ .f32 0x00000000#32))
        (broadcastInDim S1 ![] bcast_S_S1 (constantI S_ 32 0#32)) x (ix2 s w) = if hs : s.val < 500 then x (ix2 ⟨s.val, hs⟩ w) else 0 := by
  unfold copyIn
  split
  · next hs =>
    refine Routing.scatter_set_hit _ _ _ _ _ _ (fun k hk => ?_) (ix2 ⟨s.val, hs⟩ w) ?_
    · rw [lands] at hk
      have e := Option.some.inj hk
      have e0 : (k 0).val = s.val := congrArg (fun i : S512x128.Idx => (i 0).val) e
      have e1 : k 1 = w := congrArg (fun i : S512x128.Idx => i 1) e
      refine congrArg x (funext fun a => ?_)
      match a with
      | ⟨0, _⟩ => exact Fin.ext e0
      | ⟨1, _⟩ => exact e1
    · rw [lands]
      rfl
  · next hs =>
    rw [Routing.scatter_set_miss]
    · pointwise
    · intro k hk
      rw [lands] at hk
      have e0 : (k 0).val = s.val := congrArg (fun i : S512x128.Idx => (i 0).val) (Option.some.inj hk)
      exact hs (e0 ▸ (k 0).isLt)

/-! ## The arguments as the mathematics takes them -/

/-- The tokens. -/
def tok (x : FVec Ideal S1x500x128 .f32) (s : Fin 500) (w : Fin 128) : EReal := x (ix3 0 s w)

theorem tok_at (x : FVec Ideal S1x500x128 .f32) (s : Fin 500) (w : Fin 128) :
    shapeCast S500x128 x shapeCasts_S1x500x128_S500x128 (ix2 s w) = tok x s w := by
  pointwise [tok]

/-- The queries' weights, by heads. -/
def wq (a : FVec Ideal S1024x129 .f32) (h : Fin 8) (w i : Fin 128) : EReal := a (ix2 ⟨h.val * 128 + w.val, by omega⟩ ⟨i.val, by omega⟩)

/-- The forward values' weights, by heads. -/
def wf (a : FVec Ideal S2048x129 .f32) (h : Fin 8) (w i : Fin 128) : EReal := a (ix2 ⟨h.val * 128 + w.val, by omega⟩ ⟨i.val, by omega⟩)

/-- The backward values' weights, by heads. -/
def wb (a : FVec Ideal S2048x129 .f32) (h : Fin 8) (w i : Fin 128) : EReal := a (ix2 ⟨(8 + h.val) * 128 + w.val, by omega⟩ ⟨i.val, by omega⟩)

/-- The keys' scales. -/
def wk (a : FVec Ideal S8x128 .f32) (h : Fin 8) (w : Fin 128) : EReal := a (ix2 h w)

/-- The output's weights. -/
def fan (a : FVec Ideal S128x129 .f32) (o i : Fin 128) : EReal := a (ix2 o ⟨i.val, by omega⟩)

theorem blk0 (c : Dev nD) (t : Fin cfg0.N) (s : Fin 512) (w : Fin 128) :
    iblk m c 0 t (ix2 s w) = if hs : s.val < 500 then tok (m ((c.tc : Thread nD τ).loc main_arg0)) ⟨s.val, hs⟩ w else 0 := by
  refine Eq.trans (b := V m c main_call0_v3 (ix2 s w)) ?_ ?_
  · show V m c main_call0_v3 (((cfg0.win 0).blk t).view.emb (ix2 s w)) = _
    generalize V m c main_call0_v3 = f
    blk_ext [idx0 t]
  · rw [entry_x, padded_at]
    refine dite_congr rfl (fun hs => tok_at _ ⟨s.val, hs⟩ w) (fun _ => rfl)

theorem blk1 (c : Dev nD) (t : Fin cfg0.N) (w i : Fin 128) :
    iblk m c 1 t (ix3 0 w i) = wq (m ((c.tc : Thread nD τ).loc main_arg1)) ⟨t.val, t.isLt⟩ w i := by
  refine Eq.trans (b := V m c main_call0_v5 (ix3 ⟨t.val, t.isLt⟩ w i)) ?_ ?_
  · blk_ext [iblk, V, idx1 t]
  · rw [entry_q]
    pointwise [wq]

theorem blk2 (c : Dev nD) (t : Fin cfg0.N) (w i : Fin 128) :
    iblk m c 2 t (ix3 0 w i) = wf (m ((c.tc : Thread nD τ).loc main_arg2)) ⟨t.val, t.isLt⟩ w i := by
  refine Eq.trans (b := V m c main_call0_v8 (ix3 ⟨t.val, t.isLt⟩ w i)) ?_ ?_
  · blk_ext [iblk, V, idx2 t]
  · rw [entry_f]
    pointwise [wf]

theorem blk3 (c : Dev nD) (t : Fin cfg0.N) (w i : Fin 128) :
    iblk m c 3 t (ix3 0 w i) = wb (m ((c.tc : Thread nD τ).loc main_arg2)) ⟨t.val, t.isLt⟩ w i := by
  refine Eq.trans (b := V m c main_call0_v9 (ix3 ⟨t.val, t.isLt⟩ w i)) ?_ ?_
  · blk_ext [iblk, V, idx3 t]
  · rw [entry_b]
    pointwise [wb]

theorem blk4 (c : Dev nD) (t : Fin cfg0.N) (w : Fin 128) :
    iblk m c 4 t (ix3 0 0 w) = wk (m ((c.tc : Thread nD τ).loc main_arg3)) ⟨t.val, t.isLt⟩ w := by
  refine Eq.trans (b := V m c main_call0_v10 (ix3 ⟨t.val, t.isLt⟩ 0 w)) ?_ ?_
  · blk_ext [iblk, V, idx4 t]
  · rw [entry_k]
    pointwise [wk]

theorem blk5 (c : Dev nD) (t : Fin cfg0.N) (w i : Fin 128) :
    iblk m c 5 t (ix2 w i) = fan (m ((c.tc : Thread nD τ).loc main_arg4)) w i := by
  refine Eq.trans (b := V m c main_call0_v11 (ix2 w i)) ?_ ?_
  · blk_ext [iblk, V, idx5 t]
  · rw [entry_o]
    pointwise [fan]

/-- What each grid point adds, at a token. -/
theorem headAt_at (c : Dev nD) (t : Fin cfg0.N) (s : Fin 500) (w : Fin 128) :
    headAt m c t (ix2 ⟨s.val, by omega⟩ w)
      = Spec.head (tok (m ((c.tc : Thread nD τ).loc main_arg0))) (wq (m ((c.tc : Thread nD τ).loc main_arg1))) (wf (m ((c.tc : Thread nD τ).loc main_arg2))) (wb (m ((c.tc : Thread nD τ).loc main_arg2))) (wk (m ((c.tc : Thread nD τ).loc main_arg3))) ⟨t.val, t.isLt⟩ s w :=
  head_at _ _ _ _ _ _ _ _ _ _ _ (blk0 m c t) (blk1 m c t) (blk2 m c t) (blk3 m c t) (blk4 m c t) s w

 end Cert.KernelIdeal.Value

end
-- ==== Proof.Result.lean ====
/- The program's result: the sum over the heads carried from grid point to grid point, the gate, the output matrix and
   the residual. -/
module

public import proofs.«01_k».proof.Proof.Host

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- What grid point `n` adds at one element (nothing past the last). -/
def added (c : Dev nD) (i : S512x128.Idx) (n : ℕ) : EReal :=
  if h : n < cfg0.N then headAt m c ⟨n, h⟩ i else 0

/-- The carried sum after point `n`. -/
theorem carried (c : Dev nD) (i : S512x128.Idx) : ∀ (n : ℕ) (hn : n < cfg0.N), n ≤ 6 →
    (outsAt0 m c n hn).2 i = ∑ k ∈ Finset.range (n + 1), added m c i k
  | 0, hn, _ => by
    have e := carried_first m c ⟨0, hn⟩ rfl (by show ¬1 ≤ 0; omega) (by show ¬0 % 8 = 7; omega)
    rw [Finset.sum_range_one, added, dif_pos hn, ← e]
  | n + 1, hn, h6 => by
    have e := carried_middle m c ⟨n + 1, hn⟩ (by show ¬(n + 1) % 8 = 0; omega) (by show 1 ≤ n + 1; omega)
      (by show ¬(n + 1) % 8 = 7; omega)
    refine (congrFun e i).trans ?_
    rw [Finset.sum_range_succ, ← carried c i n (by omega) (by omega), added, dif_pos hn]
    rfl

/-- The result, over the arguments. -/
def res (x : FVec Ideal S1x500x128 .f32) (a : FVec Ideal S1024x129 .f32) (b : FVec Ideal S2048x129 .f32)
    (k : FVec Ideal S8x128 .f32) (o : FVec Ideal S128x129 .f32) (s : Fin 500) (w : Fin 128) : EReal :=
  Spec.out (tok x) (wq a) (wf b) (wb b) (wk k) (fan o) (Ideal.ofBits .f32 0x40900000#32) (Ideal.ofBits .f32 0x3FD9DB23#32) s w

theorem added_of (c : Dev nD) (i : S512x128.Idx) (t : Fin cfg0.N) : added m c i t.val = headAt m c t i :=
  dif_pos t.isLt

/-- The sum the last point completes is the sum over the heads. -/
theorem completed (c : Dev nD) (t : Fin cfg0.N) (ht : t.val = 7) (s : Fin 500) (w : Fin 128) :
    (outsAt0 m c (t.val - 1) (by omega)).2 (ix2 ⟨s.val, by omega⟩ w) + headAt m c t (ix2 ⟨s.val, by omega⟩ w)
      = ∑ h, Spec.head (tok (m ((c.tc : Thread nD τ).loc main_arg0))) (wq (m ((c.tc : Thread nD τ).loc main_arg1))) (wf (m ((c.tc : Thread nD τ).loc main_arg2))) (wb (m ((c.tc : Thread nD τ).loc main_arg2))) (wk (m ((c.tc : Thread nD τ).loc main_arg3))) h s w := by
  rw [carried m c _ (t.val - 1) (by omega) (by omega), ← added_of, show t.val - 1 + 1 = t.val by omega,
    ← Finset.sum_range_succ, show t.val + 1 = 8 by omega, Finset.sum_range]
  refine Finset.sum_congr rfl fun h _ => ?_
  exact (added_of m c _ ⟨h.val, h.isLt⟩).trans (headAt_at m c ⟨h.val, h.isLt⟩ s w)

/-- What the last point writes, at a token. -/
theorem written_at (c : Dev nD) (t : Fin cfg0.N) (ht : t.val = 7) (s : Fin 500) (w : Fin 128) :
    (outsAt0 m c t.val t.isLt).1 (ix2 ⟨s.val, by omega⟩ w)
      = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s w := by
  rw [written_last m c t (by omega) (by omega) (by omega), last_at, blk0, dif_pos s.isLt]
  refine congrArg₂ (· + ·) rfl (Finset.sum_congr rfl fun i _ => ?_)
  refine congrArg₂ (fun a b => Spec.gate _ _ a * b) ?_ (blk5 m c t w i)
  exact completed m c t ht s i

/-- The array the launch leaves is what its last point writes. -/
theorem arr_eq (c : Dev nD) : (dats m 0 c).arrAt 6 cfg0.N = (outsAt0 m c t0_7.val t0_7.isLt).1 := by
  refine (dats m 0 c).arrAt_eq_of_after_last 6 t0_7 (by decide +kernel) _ fun j => ?_
  blk_simp
  exact congrFun (after0_6 m c t0_7) j

end Cert.KernelIdeal.Value

end
-- ==== Proof.Run.lean ====
/- The kernel's run: its result array, over the arguments. -/
module

public import proofs.«01_k».proof.Proof.Result

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-- The result as an array over the arguments. -/
def resArr (x : FVec Ideal S1x500x128 .f32) (a : FVec Ideal S1024x129 .f32) (b : FVec Ideal S2048x129 .f32)
    (k : FVec Ideal S8x128 .f32) (o : FVec Ideal S128x129 .f32) : FVec Ideal S1x500x128 .f32 :=
  fun i => res x a b k o (i 1) (i 2)

/-- The array the launch leaves, where the operations after it read it. -/
theorem left (c : Dev nD) : Pipeline.withArrays (cfgs 0).spec c (V0 m c) (fun w => (dats m 0 c).arrAt w (cfgs 0).N)
    (Proc.devRef .tc main_call0_v12) = (outsAt0 m c t0_7.val t0_7.isLt).1 :=
  (Pipeline.withArrays_arr (cfgs 0).spec (by decide) c (V0 m c) (fun w => (dats m 0 c).arrAt w (cfgs 0).N) 6).trans (arr_eq m c)

/-- The rows of the tokens, under a leading axis of size one. -/
def crop (y : FVec Ideal S512x128 .f32) : FVec Ideal S1x500x128 .f32 :=
  broadcastInDim S1x500x128 ![1, 2] bcast_S500x128_S1x500x128_1_2 (extractStridedSlice S500x128 ![0, 0] y slices_S512x128_S500x128_0_0)

theorem crop_at (y : FVec Ideal S512x128 .f32) (s : Fin 500) (w : Fin 128) :
    crop y (ix3 0 s w) = y (ix2 ⟨s.val, by omega⟩ w) := by
  pointwise [crop]

theorem tail_eq (c : Dev nD) : Pipeline.afterTail₀ cfgs (dats m) 0 (V0 m) [hostOps1] c main_v0
    = crop (outsAt0 m c t0_7.val t0_7.isLt).1 := by
  rw [← left]
  unfold Pipeline.afterTail₀
  generalize Pipeline.withArrays (cfgs 0).spec c (V0 m c) (fun w => (dats m 0 c).arrAt w (cfgs 0).N) = A
  show StableHlo.after hostOps1 A (Proc.devRef .tc _) = _
  after_results
  rfl

theorem last_val : t0_7.val = 7 := rfl

theorem cropped (c : Dev nD) : crop (outsAt0 m c t0_7.val t0_7.isLt).1
    = resArr (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  funext i
  idx_vars i
  obtain rfl : i0 = 0 := Subsingleton.elim _ _
  exact (crop_at _ i1 i2).trans (written_at m c t0_7 last_val i1 i2)

theorem run : θ_run (defs (F := Ideal)) (onTc (τ := τ) (main (F := Ideal))) ⟨m, fun _ => 0, ρ⟩ (fun r => ∀ c : Dev nD,
    r.2.mem ((c.tc : Thread nD τ).loc main_v0) = resArr (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  run_from Cert.KernelIdeal.Gen.unchanged m ρ & Cert.KernelIdeal.Gen.run_main m ρ
  exact (tail_eq m c).trans (cropped m c)

end Cert.KernelIdeal.Value

end
-- ==== Proof.Pre.lean ====
/- What the precondition says: the bias columns are zero. -/
module

public import proofs.«01_k».proof.Proof.Gen.Pre_bias_free
public import Idealize.ShloMosaic.Lib.Pointwise
public import Idealize.ShloMosaic.Lib.ReduceAll

@[expose] public section

set_option maxRecDepth 16384

noncomputable section

open Idealize.ShloMosaic

namespace Cert.Pre_bias_free

open Facts

/-- An ordered comparison with zero that holds. -/
theorem eq_zero (y : EReal) (h : Ideal.cmp .oeq y (Ideal.ofBits .f32 0x00000000#32) = 1#1) : y = 0 := by
  have h0 : Ideal.ofBits .f32 0x00000000#32 = (0 : EReal) := by simp [Ideal.ofBits, Ideal.ieee]
  rw [h0] at h
  by_contra hy
  simp [Ideal.cmp, hy] at h

instance : Subsingleton S_.Idx := ⟨fun i j => funext fun d => d.elim0⟩

/-- The comparisons with zero along an axis, all of them true. -/
theorem all_zero {s : Shape} (y : FVec Ideal s .f32) (bc : S_.BroadcastsInDim s (![] : Fin 0 → Fin s.rank))
    {axes : List (Fin s.rank)} (red : s.ReducesTo axes S_) (hu : 0 < S_.numel) (j : S_.Idx)
    (h : Host.reduce IntOp.andi (cmpf .oeq y (broadcastInDim s ![] bc (constant S_ .f32 0x00000000#32))) (constantI S_ 1 1#1) red hu j = 1#1)
    (i : s.Idx) : y i = 0 :=
  eq_zero _ (Host.reduce_andi_all _ _ _ _ j h i)

theorem column_q (a : FVec Ideal S1024x129 .f32) (j : Fin 1024) :
    shapeCast S1024 (extractStridedSlice S1024x1 ![0, 128] a slices_S1024x129_S1024x1_0_128) shapeCasts_S1024x1_S1024 (ix1 j)
      = a (ix2 j 128) := by
  pointwise []

theorem column_v (a : FVec Ideal S2048x129 .f32) (j : Fin 2048) :
    shapeCast S2048 (extractStridedSlice S2048x1 ![0, 128] a slices_S2048x129_S2048x1_0_128) shapeCasts_S2048x1_S2048 (ix1 j)
      = a (ix2 j 128) := by
  pointwise []

theorem column_o (a : FVec Ideal S128x129 .f32) (j : Fin 128) :
    shapeCast S128 (extractStridedSlice S128x1 ![0, 128] a slices_S128x129_S128x1_0_128) shapeCasts_S128x1_S128 (ix1 j)
      = a (ix2 j 128) := by
  pointwise []

/-- The precondition read back: the three bias columns are zero. -/
theorem biases (x : FVec Ideal S1x500x128 .f32) (a : FVec Ideal S1024x129 .f32) (b : FVec Ideal S2048x129 .f32)
    (k : FVec Ideal S8x128 .f32) (o : FVec Ideal S128x129 .f32) (h : fn (F := Ideal) x a b k o = fun _ => 1#1) :
    (∀ j, a (ix2 j 128) = 0) ∧ (∀ j, b (ix2 j 128) = 0) ∧ ∀ j, o (ix2 j 128) = 0 := by
  have h' := congrFun h ix0
  unfold fn at h'
  obtain ⟨h12, h3⟩ := IntOp.andi_eq_one.1 h'
  obtain ⟨h1, h2⟩ := IntOp.andi_eq_one.1 h12
  exact ⟨fun j => (column_q a j).symm.trans (all_zero _ _ _ _ _ h1 _), fun j => (column_v b j).symm.trans (all_zero _ _ _ _ _ h2 _),
    fun j => (column_o o j).symm.trans (all_zero _ _ _ _ _ h3 _)⟩

end Cert.Pre_bias_free

end
-- ==== Proof.Agree.lean ====
/- The kernel's result array is the reference's when the biases are zero. -/
module

public import proofs.«01_k».proof.Proof.Ref
public import proofs.«01_k».proof.Proof.Run
public import proofs.«01_k».proof.Proof.Pre

@[expose] public section

set_option maxRecDepth 16384

noncomputable section

open Idealize.ShloMosaic

namespace Cert.Agree

open Cert.ReferenceIdeal

/-- Both programs compute the mathematics, so they agree. -/
theorem agree (x : FVec Ideal S1x500x128 .f32) (a : FVec Ideal S1024x129 .f32) (b : FVec Ideal S2048x129 .f32)
    (k : FVec Ideal S8x128 .f32) (o : FVec Ideal S128x129 .f32)
    (h : Cert.Pre_bias_free.fn (F := Ideal) x a b k o = fun _ => 1#1) :
    Stages.whole x a b k o = Cert.KernelIdeal.Value.resArr x a b k o := by
  obtain ⟨ha, hb, ho⟩ := Cert.Pre_bias_free.biases x a b k o h
  funext i
  idx_vars i
  obtain rfl : i0 = 0 := Subsingleton.elim _ _
  exact Stages.whole_at x a b k o ha hb ho i1 i2

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bias_free
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments and ends quiescent. -/
theorem reference (m : (ℓ : Loc Cert.ReferenceIdeal.nD Cert.ReferenceIdeal.τ Cert.ReferenceIdeal.sig) → Buf (Elt Ideal) ℓ)
    (g : Dev Cert.ReferenceIdeal.nD → PrngReg) : θ_run (Cert.ReferenceIdeal.defs (F := Ideal))
      (onTc (τ := Cert.ReferenceIdeal.τ) (Cert.ReferenceIdeal.main (F := Ideal))) ⟨m, fun _ => 0, g⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3)
      ∧ r.2.mem (c.tc.loc Cert.ReferenceIdeal.main_arg4) = m (c.tc.loc Cert.ReferenceIdeal.main_arg4))
      ∧ r.2.sem = fun _ => 0) :=
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- The reference's result, from arguments that agree with the kernel's. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_bias_free m) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4)) :
    Cert.ReferenceIdeal.Value.res_main_v76 m' c
      = Cert.KernelIdeal.Value.resArr (m (c.tc.loc Cert.KernelIdeal.main_arg0)) (m (c.tc.loc Cert.KernelIdeal.main_arg1))
        (m (c.tc.loc Cert.KernelIdeal.main_arg2)) (m (c.tc.loc Cert.KernelIdeal.main_arg3)) (m (c.tc.loc Cert.KernelIdeal.main_arg4)) := by
  rw [Cert.ReferenceIdeal.Stages.whole_eq, h0, h1, h2, h3, h4]
  exact Cert.Agree.agree _ _ _ _ _ (hp c)

theorem claim : Cert.Claim := ⟨Cert.Kernel.Gen.facts, Cert.KernelIdeal.Gen.facts, Cert.ReferenceIdeal.Gen.facts, Cert.Pre_bias_free.Gen.facts,
  fun m g _ => Cert.Kernel.Gen.frame m g, fun m g _ => Cert.KernelIdeal.Gen.frame m g, fun m g _ => Cert.KernelIdeal.Gen.frame m g,
  fun m g _ => reference m g, fun m g _ => reference m g,
  ⟨IdealRules.named_const.statement Cert.KernelIdeal.κ "far" .f32 0x45800000#32 ⊤ rfl,
    IdealRules.named_const.statement Cert.KernelIdeal.κ "c1" .bf16 0xBE03#16
      ((-((Real.sqrt 128)⁻¹ * (Real.log 2)⁻¹) : ℝ) : EReal) rfl⟩,
  fun m g m' g' hp ha => ⟨fun c => Cert.KernelIdeal.Value.resArr (m (c.tc.loc Cert.KernelIdeal.main_arg0))
      (m (c.tc.loc Cert.KernelIdeal.main_arg1)) (m (c.tc.loc Cert.KernelIdeal.main_arg2)) (m (c.tc.loc Cert.KernelIdeal.main_arg3))
      (m (c.tc.loc Cert.KernelIdeal.main_arg4)), Cert.KernelIdeal.Value.run m g,
    (θ_run (Cert.ReferenceIdeal.defs (F := Ideal)) _ _).mono
      (fun r h c => ⟨(h c).1.trans (result m m' hp c (ha c).1 (ha c).2.1 (ha c).2.2.1 (ha c).2.2.2.1 (ha c).2.2.2.2), (h c).2⟩)
      (Cert.ReferenceIdeal.Value.run (F := Ideal) m' g')⟩⟩

end Cert.Proof

end
